-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_SiluReferenceIdeal (m : (ℓ : Loc Cert.SiluReferenceIdeal.nD Cert.SiluReferenceIdeal.τ Cert.SiluReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluReferenceIdeal [hSiluReferenceIdeal : Cert.SiluReferenceIdeal.Facts] : Prop :=
  ∀ (m : (ℓ : Loc Cert.SiluReferenceIdeal.nD Cert.SiluReferenceIdeal.τ Cert.SiluReferenceIdeal.sig) → Buf (Elt Ideal) ℓ) (g : Dev Cert.SiluReferenceIdeal.nD → PrngReg), Pre_SiluReferenceIdeal m →
    θ_run (Cert.SiluReferenceIdeal.defs (F := Ideal)) (onTc (τ := Cert.SiluReferenceIdeal.τ) (Cert.SiluReferenceIdeal.main (F := Ideal))) ⟨m, fun _ => 0, g⟩ (fun r => (∀ c : Dev Cert.SiluReferenceIdeal.nD,
      r.2.mem ((c.tc : Thread Cert.SiluReferenceIdeal.nD Cert.SiluReferenceIdeal.τ).loc Cert.SiluReferenceIdeal.main_arg0) = m ((c.tc : Thread Cert.SiluReferenceIdeal.nD Cert.SiluReferenceIdeal.τ).loc Cert.SiluReferenceIdeal.main_arg0)
      ∧ r.2.mem ((c.tc : Thread Cert.SiluReferenceIdeal.nD Cert.SiluReferenceIdeal.τ).loc Cert.SiluReferenceIdeal.main_arg1) = m ((c.tc : Thread Cert.SiluReferenceIdeal.nD Cert.SiluReferenceIdeal.τ).loc Cert.SiluReferenceIdeal.main_arg1))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluReferenceIdeal [hKernelIdeal : Cert.KernelIdeal.Facts] [hSiluReferenceIdeal : Cert.SiluReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluReferenceIdeal.nD Cert.SiluReferenceIdeal.τ Cert.SiluReferenceIdeal.sig) → Buf (Elt Ideal) ℓ) (g' : Dev Cert.SiluReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.SiluReferenceIdeal.nD).tc : Thread Cert.SiluReferenceIdeal.nD Cert.SiluReferenceIdeal.τ).loc Cert.SiluReferenceIdeal.main_arg0))
      ∧ m ((c.tc : Thread Cert.KernelIdeal.nD Cert.KernelIdeal.τ).loc Cert.KernelIdeal.main_arg1) = m' (((0 : Dev Cert.SiluReferenceIdeal.nD).tc : Thread Cert.SiluReferenceIdeal.nD Cert.SiluReferenceIdeal.τ).loc Cert.SiluReferenceIdeal.main_arg1)) →
    ∃ (v0 : Buf (Elt Ideal) (((0 : Dev Cert.SiluReferenceIdeal.nD).tc : Thread Cert.SiluReferenceIdeal.nD Cert.SiluReferenceIdeal.τ).loc Cert.SiluReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![2048, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluReferenceIdeal.defs (F := Ideal)) (onTc (τ := Cert.SiluReferenceIdeal.τ) (Cert.SiluReferenceIdeal.main (F := Ideal))) ⟨m', fun _ => 0, g'⟩ (fun r =>
          r.2.mem (((0 : Dev Cert.SiluReferenceIdeal.nD).tc : Thread Cert.SiluReferenceIdeal.nD Cert.SiluReferenceIdeal.τ).loc Cert.SiluReferenceIdeal.main_v7) = v0
          ∧ r.2.mem (((0 : Dev Cert.SiluReferenceIdeal.nD).tc : Thread Cert.SiluReferenceIdeal.nD Cert.SiluReferenceIdeal.τ).loc Cert.SiluReferenceIdeal.main_arg0) = m' (((0 : Dev Cert.SiluReferenceIdeal.nD).tc : Thread Cert.SiluReferenceIdeal.nD Cert.SiluReferenceIdeal.τ).loc Cert.SiluReferenceIdeal.main_arg0)
          ∧ r.2.mem (((0 : Dev Cert.SiluReferenceIdeal.nD).tc : Thread Cert.SiluReferenceIdeal.nD Cert.SiluReferenceIdeal.τ).loc Cert.SiluReferenceIdeal.main_arg1) = m' (((0 : Dev Cert.SiluReferenceIdeal.nD).tc : Thread Cert.SiluReferenceIdeal.nD Cert.SiluReferenceIdeal.τ).loc Cert.SiluReferenceIdeal.main_arg1))

def Claim : Prop :=
  ∃ (hKernel : Cert.Kernel.Facts) (hKernelIdeal : Cert.KernelIdeal.Facts) (hReferenceIdeal : Cert.ReferenceIdeal.Facts) (hSiluReferenceIdeal : Cert.SiluReferenceIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ quiescent_SiluReferenceIdeal (hSiluReferenceIdeal := hSiluReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
    ∧ algebraic_KernelIdeal_SiluReferenceIdeal (hKernelIdeal := hKernelIdeal) (hSiluReferenceIdeal := hSiluReferenceIdeal)
-- ==== Pre_bounded_KernelIdeal.lean ====
abbrev S2048x256 : Shape := ⟨2, ![2048, 256]⟩
abbrev S2048x2048 : Shape := ⟨2, ![2048, 2048]⟩
abbrev S_ : Shape := ⟨0, ![]⟩
abbrev S2048 : Shape := ⟨1, ![2048]⟩

class Facts : Prop where
  bitsLt_bf16_f32 : FTy.bits .bf16 < FTy.bits .f32
  reducesTo_S2048x256_S2048_d1 : S2048x256.ReducesTo [1] S2048
  h_S_ : 0 < S_.numel
  bcast_S_S2048 : S_.BroadcastsInDim S2048 (![] : Fin 0 → Fin S2048.rank)
  reducesTo_S2048x2048_S2048_d0 : S2048x2048.ReducesTo [0] S2048

variable [Facts]

def fn {F : FTy → Type} [FloatOps F] (main_arg0 : FVec F S2048x256 .bf16) (main_arg1 : FVec F S2048x2048 .bf16) : IVec S2048 1 × IVec S2048 1 :=
  let main_v0 : FVec F S2048x256 .f32 := (extf .f32 · bitsLt_bf16_f32) main_arg0
  let main_v1 : FVec F S2048x2048 .f32 := (extf .f32 · bitsLt_bf16_f32) main_arg1
  let main_v2 : FVec F S2048x256 .f32 := mulf main_v0 main_v0
  let main_cst : FVec F S_ .f32 := constant S_ .f32 0x00000000#32
  let main_v3 : FVec F S2048 .f32 := (fun x v => Host.reduceAdd x v reducesTo_S2048x256_S2048_d1 h_S_) main_v2 main_cst
  let main_cst_0 : FVec F S_ .f32 := constant S_ .f32 0x43BB8000#32
  let main_v4 : FVec F S2048 .f32 := broadcastInDim S2048 ![] bcast_S_S2048 main_cst_0
  let main_v5 : IVec S2048 1 := cmpf .ole main_v3 main_v4
  let main_v6 : FVec F S2048x2048 .f32 := mulf main_v1 main_v1
  let main_cst_1 : FVec F S_ .f32 := constant S_ .f32 0x00000000#32
  let main_v7 : FVec F S2048 .f32 := (fun x v => Host.reduceAdd x v reducesTo_S2048x2048_S2048_d0 h_S_) main_v6 main_cst_1
  let main_cst_2 : FVec F S_ .f32 := constant S_ .f32 0x3F980000#32
  let main_v8 : FVec F S2048 .f32 := broadcastInDim S2048 ![] bcast_S_S2048 main_cst_2
  let main_v9 : IVec S2048 1 := cmpf .ole main_v7 main_v8
  (main_v5, main_v9)
-- ==== Pre_bounded_ReferenceIdeal.lean ====
abbrev S2048x2048 : Shape := ⟨2, ![2048, 2048]⟩
abbrev S_ : Shape := ⟨0, ![]⟩
abbrev S2048 : Shape := ⟨1, ![2048]⟩

class Facts : Prop where
  bitsLt_bf16_f32 : FTy.bits .bf16 < FTy.bits .f32
  reducesTo_S2048x2048_S2048_d1 : S2048x2048.ReducesTo [1] S2048
  h_S_ : 0 < S_.numel
  bcast_S_S2048 : S_.BroadcastsInDim S2048 (![] : Fin 0 → Fin S2048.rank)
  reducesTo_S2048x2048_S2048_d0 : S2048x2048.ReducesTo [0] S2048

variable [Facts]

def fn {F : FTy → Type} [FloatOps F] (main_arg0 : FVec F S2048x2048 .bf16) (main_arg1 : FVec F S2048x2048 .bf16) : IVec S2048 1 × IVec S2048 1 :=
  let main_v0 : FVec F S2048x2048 .f32 := (extf .f32 · bitsLt_bf16_f32) main_arg0
  let main_v1 : FVec F S2048x2048 .f32 := (extf .f32 · bitsLt_bf16_f32) main_arg1
  let main_v2 : FVec F S2048x2048 .f32 := mulf main_v0 main_v0
  let main_cst : FVec F S_ .f32 := constant S_ .f32 0x00000000#32
  let main_v3 : FVec F S2048 .f32 := (fun x v => Host.reduceAdd x v reducesTo_S2048x2048_S2048_d1 h_S_) main_v2 main_cst
  let main_cst_0 : FVec F S_ .f32 := constant S_ .f32 0x43BB8000#32
  let main_v4 : FVec F S2048 .f32 := broadcastInDim S2048 ![] bcast_S_S2048 main_cst_0
  let main_v5 : IVec S2048 1 := cmpf .ole main_v3 main_v4
  let main_v6 : FVec F S2048x2048 .f32 := mulf main_v1 main_v1
  let main_cst_1 : FVec F S_ .f32 := constant S_ .f32 0x00000000#32
  let main_v7 : FVec F S2048 .f32 := (fun x v => Host.reduceAdd x v reducesTo_S2048x2048_S2048_d0 h_S_) main_v6 main_cst_1
  let main_cst_2 : FVec F S_ .f32 := constant S_ .f32 0x3F980000#32
  let main_v8 : FVec F S2048 .f32 := broadcastInDim S2048 ![] bcast_S_S2048 main_cst_2
  let main_v9 : IVec S2048 1 := cmpf .ole main_v7 main_v8
  (main_v5, main_v9)
-- ==== Kernel.lean ====
abbrev S2048x256 : Shape := ⟨2, ![2048, 256]⟩
abbrev S2048x2048 : Shape := ⟨2, ![2048, 2048]⟩
abbrev S256x2048 : Shape := ⟨2, ![256, 2048]⟩
abbrev S7x256x256 : Shape := ⟨3, ![7, 256, 256]⟩
abbrev S14 : Shape := ⟨1, ![14]⟩
abbrev S_ : Shape := ⟨0, ![]⟩
abbrev S1 : Shape := ⟨1, ![1]⟩
abbrev S1x128x256 : Shape := ⟨3, ![1, 128, 256]⟩
abbrev S128x256 : Shape := ⟨2, ![128, 256]⟩
abbrev S256x256 : Shape := ⟨2, ![256, 256]⟩
abbrev S1x256x256 : Shape := ⟨3, ![1, 256, 256]⟩

abbrev nBuf : Space → Nat
  | .hbm => 3
  | .vmem => 4
  | .smem => 0
  | _ => 0

abbrev bufTy : (tb : Table) → Fin (tcTables nBuf tb) → BufTy
  | .hbm, ⟨0, _⟩ => ⟨S2048x256, .bf16⟩
  | .hbm, ⟨1, _⟩ => ⟨S2048x2048, .bf16⟩
  | .hbm, ⟨2, _⟩ => ⟨S256x2048, .f32⟩
  | .local _ .vmem, ⟨0, _⟩ => ⟨S2048x256, .bf16⟩
  | .local _ .vmem, ⟨1, _⟩ => ⟨S2048x2048, .bf16⟩
  | .local _ .vmem, ⟨2, _⟩ => ⟨S256x2048, .f32⟩
  | .local _ .vmem, ⟨3, _⟩ => ⟨S7x256x256, .bf16⟩
  | _, _ => ⟨S2048x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.xori v2 c2_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v19 : BitVec 32 := Scalar.xori v2 c7_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 32 := Scalar.xori v2 c6_i32
  let c1_i32_19 : BitVec 32 := 1#32
  let v23 : BitVec 32 := Scalar.muli v22 c1_i32_19
  let v24 : BitVec 32 := Scalar.addi c0_i32_20 v23
  v24.toNat
def k0_off1 (d0 : Dev nD) (c6_i32_22 : BitVec 32) (c0_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.xori v2 c6_i32_22
  let c256_i32 : BitVec 32 := 256#32
  let v26 : BitVec 32 := Scalar.muli v25 c256_i32
  let v27 : BitVec 32 := Scalar.addi v26 c0_i32_23
  let c0_i32_30 : BitVec 32 := 0#32
  ![v27.toNat, 0]
def k0_dev8 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_22 : BitVec 32 := 6#32
  let v25 : BitVec 32 := Scalar.xori v2 c6_i32_22
  let c1_i32_26 : BitVec 32 := 1#32
  let v28 : BitVec 32 := Scalar.muli v25 c1_i32_26
  let v29 : BitVec 32 := Scalar.addi c0_i32_27 v28
  v29.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_31 : BitVec 32 := 7#32
  let v37 : BitVec 32 := Scalar.xori v2 c7_i32_31
  let c1_i32_36 : BitVec 32 := 1#32
  let v40 : BitVec 32 := Scalar.muli v37 c1_i32_36
  let v41 : BitVec 32 := Scalar.addi c0_i32_37 v40
  v41.toNat
def k0_dev10 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_41 : BitVec 32 := 5#32
  let v49 : BitVec 32 := Scalar.xori v2 c5_i32_41
  let c1_i32_47 : BitVec 32 := 1#32
  let v52 : BitVec 32 := Scalar.muli v49 c1_i32_47
  let v53 : BitVec 32 := Scalar.addi c0_i32_48 v52
  v53.toNat
def k0_dev11 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_52 : BitVec 32 := 2#32
  let v61 : BitVec 32 := Scalar.xori v2 c2_i32_52
  let c1_i32_58 : BitVec 32 := 1#32
  let v64 : BitVec 32 := Scalar.muli v61 c1_i32_58
  let v65 : BitVec 32 := Scalar.addi c0_i32_59 v64
  v65.toNat
def k0_dev12 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_63 : BitVec 32 := 4#32
  let v73 : BitVec 32 := Scalar.xori v2 c4_i32_63
  let c1_i32_69 : BitVec 32 := 1#32
  let v76 : BitVec 32 := Scalar.muli v73 c1_i32_69
  let v77 : BitVec 32 := Scalar.addi c0_i32_70 v76
  v77.toNat
def k0_dev13 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_74 : BitVec 32 := 3#32
  let v85 : BitVec 32 := Scalar.xori v2 c3_i32_74
  let c1_i32_80 : BitVec 32 := 1#32
  let v88 : BitVec 32 := Scalar.muli v85 c1_i32_80
  let v89 : BitVec 32 := Scalar.addi c0_i32_81 v88
  v89.toNat
def k0_dev14 (d0 : Dev nD) : Nat :=
  let c0_i32_92 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_85 : BitVec 32 := 1#32
  let v97 : BitVec 32 := Scalar.xori v2 c1_i32_85
  let c1_i32_91 : BitVec 32 := 1#32
  let v100 : BitVec 32 := Scalar.muli v97 c1_i32_91
  let v101 : BitVec 32 := Scalar.addi c0_i32_92 v100
  v101.toNat
def k0_dev15 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_96 : BitVec 32 := 6#32
  let v109 : BitVec 32 := Scalar.xori v2 c6_i32_96
  let c1_i32_100 : BitVec 32 := 1#32
  let v112 : BitVec 32 := Scalar.muli v109 c1_i32_100
  let v113 : BitVec 32 := Scalar.addi c0_i32_101 v112
  v113.toNat
def k0_dev16 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_105 : BitVec 32 := 7#32
  let v121 : BitVec 32 := Scalar.xori v2 c7_i32_105
  let c1_i32_110 : BitVec 32 := 1#32
  let v124 : BitVec 32 := Scalar.muli v121 c1_i32_110
  let v125 : BitVec 32 := Scalar.addi c0_i32_111 v124
  v125.toNat
def k0_dev17 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_115 : BitVec 32 := 5#32
  let v133 : BitVec 32 := Scalar.xori v2 c5_i32_115
  let c1_i32_120 : BitVec 32 := 1#32
  let v136 : BitVec 32 := Scalar.muli v133 c1_i32_120
  let v137 : BitVec 32 := Scalar.addi c0_i32_121 v136
  v137.toNat
def k0_dev18 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_125 : BitVec 32 := 2#32
  let v145 : BitVec 32 := Scalar.xori v2 c2_i32_125
  let c1_i32_131 : BitVec 32 := 1#32
  let v148 : BitVec 32 := Scalar.muli v145 c1_i32_131
  let v149 : BitVec 32 := Scalar.addi c0_i32_132 v148
  v149.toNat
def k0_dev19 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_136 : BitVec 32 := 4#32
  let v157 : BitVec 32 := Scalar.xori v2 c4_i32_136
  let c1_i32_142 : BitVec 32 := 1#32
  let v160 : BitVec 32 := Scalar.muli v157 c1_i32_142
  let v161 : BitVec 32 := Scalar.addi c0_i32_143 v160
  v161.toNat
def k0_dev20 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_147 : BitVec 32 := 3#32
  let v169 : BitVec 32 := Scalar.xori v2 c3_i32_147
  let c1_i32_153 : BitVec 32 := 1#32
  let v172 : BitVec 32 := Scalar.muli v169 c1_i32_153
  let v173 : BitVec 32 := Scalar.addi c0_i32_154 v172
  v173.toNat
def k0_dev21 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_158 : BitVec 32 := 1#32
  let v181 : BitVec 32 := Scalar.xori v2 c1_i32_158
  let c1_i32_164 : BitVec 32 := 1#32
  let v184 : BitVec 32 := Scalar.muli v181 c1_i32_164
  let v185 : BitVec 32 := Scalar.addi c0_i32_165 v184
  v185.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_169 : BitVec 32 := 256#32
  let v193 : BitVec 32 := Scalar.muli v2 c256_i32_169
  let v194 : Index := Scalar.indexCast v193
  let c0 : Index := 0#32
  ![v194.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_170 : BitVec 32 := 256#32
  let v198 : BitVec 32 := Scalar.muli v2 c256_i32_170
  let v199 : Index := Scalar.indexCast v198
  let c0_171 : Index := 0#32
  ![v199.toNat, 0]
def k0_off4 (d0 : Dev nD) (c1_i32_174 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v204 : BitVec 32 := Scalar.xori v2 c1_i32_174
  let c256_i32_196 : BitVec 32 := 256#32
  let v224 : BitVec 32 := Scalar.muli v204 c256_i32_196
  let v225 : Index := Scalar.indexCast v224
  let c0_197 : Index := 0#32
  ![v225.toNat, 0]
abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== SiluReferenceIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Geometry.lean ====
/-
# The all-to-all's geometry: partners, transfers, pieces

Device `c` exchanges one block with every other device. Slot `d : Fin 7` pairs `c` with `par d c = c xor off d`; a slot's
block is moved as two halves, so a transfer is a pair `(d, h) : Fin 7 × Fin 2`. This module names the memrefs and the
semaphores of transfer `(d, h)`, gives the device and offset chains of the kernel in closed form, and shows that the
transfers' pieces cut the buffer they are taken from (with the block a device keeps) and the buffer they land in.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.Exchange

open Cert.KernelIdeal Cert.KernelIdeal.Gen
open Idealize.ShloMosaic Idealize.ShloMosaic.TcCoe
open Idealize.ShloMosaic.ValueIdx

variable {F : FTy → Type} [FloatOps F]

/-! ## Partners -/

/-- The word slot `d` is paired by, less one. -/
def offm : Fin 7 → Fin 7 := ![0, 2, 3, 1, 4, 6, 5]

/-- The device that slot `d` pairs `c` with: `c xor off d`. -/
def par (d : Fin 7) (c : Dev nD) : Dev nD := ⟨(c.val ^^^ (1 + (offm d).val)) % 8, Nat.mod_lt _ (by decide)⟩

/-- Pairing is symmetric. -/
theorem par_par : ∀ (d : Fin 7) (c : Dev nD), par d (par d c) = c := by decide
/-- A slot never pairs a device with itself. -/
theorem par_ne : ∀ (d : Fin 7) (c : Dev nD), par d c ≠ c := by decide
/-- Different slots pair a device with different devices. -/
theorem par_inj : ∀ (c : Dev nD) (d d' : Fin 7), par d c = par d' c → d = d' := by decide
/-- Every other device is some slot's partner. -/
theorem par_surj : ∀ (c s : Dev nD), s = c ∨ ∃ d, s = par d c := by decide

/-- Pairing through slot `d` as a permutation of the devices. -/
def parEquiv (d : Fin 7) : Dev nD ≃ Dev nD := ⟨par d, par d, par_par d, par_par d⟩

/-! ## The kernel's device and offset chains in closed form -/

theorem dev1_eq : ∀ c : Dev nD, (⟨k0_dev1 c, k0_dev1_lt c⟩ : Dev nD) = par 0 c := by decide +kernel
theorem dev2_eq : ∀ c : Dev nD, (⟨k0_dev2 c, k0_dev2_lt c⟩ : Dev nD) = par 1 c := by decide +kernel
theorem dev3_eq : ∀ c : Dev nD, (⟨k0_dev3 c, k0_dev3_lt c⟩ : Dev nD) = par 2 c := by decide +kernel
theorem dev4_eq : ∀ c : Dev nD, (⟨k0_dev4 c, k0_dev4_lt c⟩ : Dev nD) = par 3 c := by decide +kernel
theorem dev5_eq : ∀ c : Dev nD, (⟨k0_dev5 c, k0_dev5_lt c⟩ : Dev nD) = par 4 c := by decide +kernel
theorem dev6_eq : ∀ c : Dev nD, (⟨k0_dev6 c, k0_dev6_lt c⟩ : Dev nD) = par 5 c := by decide +kernel
theorem dev7_eq : ∀ c : Dev nD, (⟨k0_dev7 c, k0_dev7_lt c⟩ : Dev nD) = par 6 c := by decide +kernel
theorem dev8_eq : ∀ c : Dev nD, (⟨k0_dev8 c, k0_dev8_lt c⟩ : Dev nD) = par 6 c := by decide +kernel
theorem dev9_eq : ∀ c : Dev nD, (⟨k0_dev9 c, k0_dev9_lt c⟩ : Dev nD) = par 5 c := by decide +kernel
theorem dev10_eq : ∀ c : Dev nD, (⟨k0_dev10 c, k0_dev10_lt c⟩ : Dev nD) = par 4 c := by decide +kernel
theorem dev11_eq : ∀ c : Dev nD, (⟨k0_dev11 c, k0_dev11_lt c⟩ : Dev nD) = par 3 c := by decide +kernel
theorem dev12_eq : ∀ c : Dev nD, (⟨k0_dev12 c, k0_dev12_lt c⟩ : Dev nD) = par 2 c := by decide +kernel
theorem dev13_eq : ∀ c : Dev nD, (⟨k0_dev13 c, k0_dev13_lt c⟩ : Dev nD) = par 1 c := by decide +kernel
theorem dev14_eq : ∀ c : Dev nD, (⟨k0_dev14 c, k0_dev14_lt c⟩ : Dev nD) = par 0 c := by decide +kernel
theorem dev15_eq : ∀ c : Dev nD, (⟨k0_dev15 c, k0_dev15_lt c⟩ : Dev nD) = par 6 c := by decide +kernel
theorem dev16_eq : ∀ c : Dev nD, (⟨k0_dev16 c, k0_dev16_lt c⟩ : Dev nD) = par 5 c := by decide +kernel
theorem dev17_eq : ∀ c : Dev nD, (⟨k0_dev17 c, k0_dev17_lt c⟩ : Dev nD) = par 4 c := by decide +kernel
theorem dev18_eq : ∀ c : Dev nD, (⟨k0_dev18 c, k0_dev18_lt c⟩ : Dev nD) = par 3 c := by decide +kernel
theorem dev19_eq : ∀ c : Dev nD, (⟨k0_dev19 c, k0_dev19_lt c⟩ : Dev nD) = par 2 c := by decide +kernel
theorem dev20_eq : ∀ c : Dev nD, (⟨k0_dev20 c, k0_dev20_lt c⟩ : Dev nD) = par 1 c := by decide +kernel
theorem dev21_eq : ∀ c : Dev nD, (⟨k0_dev21 c, k0_dev21_lt c⟩ : Dev nD) = par 0 c := by decide +kernel

/-- The row a transfer's source starts at: the partner's block, the half's rows. -/
theorem off1_eq : ∀ (c : Dev nD) (d : Fin 7) (h : Fin 2),
    k0_off1 c (BitVec.ofNat 32 (1 + (offm d).val)) (BitVec.ofNat 32 (128 * h.val)) = ![256 * (par d c).val + 128 * h.val, 0] := by
  decide +kernel
/-- The row of the weights a slot's product starts at: the partner's block. -/
theorem off4_eq : ∀ (c : Dev nD) (d : Fin 7),
    k0_off4 c (BitVec.ofNat 32 (1 + (offm d).val)) = ![256 * (par d c).val, 0] := by
  decide +kernel

/-! ## Transfers: memrefs and semaphores -/

/-- A transfer: its slot and its half. -/
abbrev T : Type := Fin 7 × Fin 2

abbrev xM : Memref sig .tc .vmem S2048x256 .bf16 := Memref.whole cc0_stg0_0
abbrev wM : Memref sig .tc .vmem S2048x2048 .bf16 := Memref.whole cc0_stg1_0
abbrev oM : Memref sig .tc .vmem S256x2048 .f32 := Memref.whole cc0_stg2_0
abbrev gM : Memref sig .tc .vmem S7x256x256 .bf16 := Memref.whole cc0_scratch0

/-- The rows device `c` sends in transfer `t`. -/
abbrev srcR (c : Dev nD) (t : T) : Rect S2048x256 :=
  Rect.unit (s := S2048x256) (k0_off1 c (BitVec.ofNat 32 (1 + (offm t.1).val)) (BitVec.ofNat 32 (128 * t.2.val))) S128x256.size
    (k0_off1_inb c (offm t.1) t.2)
abbrev srcM (c : Dev nD) (t : T) : Memref sig .tc .vmem S128x256 .bf16 := xM.slice (srcR c t) (fun _ => rfl)

theorem dst_inb : ∀ t : T, ∀ a, (![t.1.val, 128 * t.2.val, 0] : Fin 3 → ℕ) a + S1x128x256.size a ≤ S7x256x256.size a := by decide
/-- The rows of the landing buffer transfer `t` writes, on whichever device. -/
abbrev dstR (t : T) : Rect S7x256x256 := Rect.unit (s := S7x256x256) ![t.1.val, 128 * t.2.val, 0] S1x128x256.size (dst_inb t)
abbrev dstM (t : T) : Memref sig .tc .vmem S128x256 .bf16 :=
  (gM.slice (dstR t) (fun _ => rfl)).squeeze S128x256 squeezes_S1x128x256_S128x256

/-- The barrier semaphore, and transfer `t`'s send and receive semaphores. -/
abbrev barS : Sem sig := (SemArray.scalar (sig.barrier 0 rfl) : Sems sig S_).sem
def sendQ (t : T) : DmaSem sig := (⟨3 + (2 * t.1.val + t.2.val), by have := t.1.isLt; have := t.2.isLt; show _ < 31; omega⟩ : Fin 31)
def recvQ (t : T) : DmaSem sig := (⟨17 + (2 * t.1.val + t.2.val), by have := t.1.isLt; have := t.2.isLt; show _ < 31; omega⟩ : Fin 31)

theorem semS_inb : ∀ t : T, ∀ a, (![2 * t.1.val + t.2.val] : Fin 1 → ℕ) a + S1.size a ≤ S14.size a := by decide
theorem sendQ_eq : ∀ t : T, ((cc0_scratch1.slice (Rect.unit (s := S14) ![2 * t.1.val + t.2.val] S1.size (semS_inb t))).squeeze S_ squeezes_S1_S_).sem
    = sendQ t := by decide +kernel
theorem recvQ_eq : ∀ t : T, ((cc0_scratch2.slice (Rect.unit (s := S14) ![2 * t.1.val + t.2.val] S1.size (semS_inb t))).squeeze S_ squeezes_S1_S_).sem
    = recvQ t := by decide +kernel

/-! ## The pieces -/

theorem mem_src_set (c : Dev nD) (t : T) (i : S2048x256.Idx) :
    i ∈ ((srcM c t).view.set : Finset S2048x256.Idx)
      ↔ 256 * (par t.1 c).val + 128 * t.2.val ≤ (i 0).val ∧ (i 0).val < 256 * (par t.1 c).val + 128 * t.2.val + 128 := by
  have hs : ((srcM c t).view.set : Finset S2048x256.Idx) = (srcR c t).set := View.set_slice_whole _ _
  rw [hs, Rect.mem_set_unit, off1_eq]
  constructor
  · intro h; exact h 0
  · intro h a
    fin_cases a
    · exact h
    · exact ⟨Nat.zero_le _, by have := (i 1).isLt; simpa using this⟩

theorem mem_dst_set (t : T) (i : S7x256x256.Idx) :
    i ∈ ((dstM t).view.set : Finset S7x256x256.Idx)
      ↔ (i 0).val = t.1.val ∧ 128 * t.2.val ≤ (i 1).val ∧ (i 1).val < 128 * t.2.val + 128 := by
  have hs : ((dstM t).view.set : Finset S7x256x256.Idx) = (dstR t).set := by
    show (((View.whole cc0_scratch0).slice (dstR t)).reshape _ _).set = _
    rw [View.set_reshape]; exact View.set_slice_whole _ _
  rw [hs, Rect.mem_set_unit]
  constructor
  · intro h
    have h0 := h 0; have h1 := h 1
    simp at h0 h1
    omega
  · rintro ⟨h0, h1, h2⟩ a
    fin_cases a
    · simp; omega
    · simp; omega
    · exact ⟨Nat.zero_le _, by have := (i 2).isLt; simpa using this⟩

/-- The rows device `c` keeps: its own block. -/
abbrev ownR (c : Dev nD) : Rect S2048x256 := Rect.unit (s := S2048x256) (k0_off2 c) S256x256.size (k0_off2_inb c)
def ownSet (c : Dev nD) : Finset S2048x256.Idx := (ownR c).set

theorem mem_ownSet (c : Dev nD) (i : S2048x256.Idx) :
    i ∈ ownSet c ↔ 256 * c.val ≤ (i 0).val ∧ (i 0).val < 256 * c.val + 256 := by
  unfold ownSet
  rw [Rect.mem_set_unit, k0_off2_eq]
  constructor
  · intro h; exact h 0
  · intro h a
    fin_cases a
    · exact h
    · exact ⟨Nat.zero_le _, by have := (i 1).isLt; simpa using this⟩

/-- The pieces of the block buffer: the kept block, and each transfer's rows. -/
def xPiece (c : Dev nD) : Unit ⊕ T → Finset S2048x256.Idx := Sum.elim (fun _ => ownSet c) (fun t => (srcM c t).view.set)

theorem xPiece_disjoint (c : Dev nD) (b b' : Unit ⊕ T) (hb : b ≠ b') : Disjoint (xPiece c b) (xPiece c b') := by
  rw [Finset.disjoint_left]
  intro i hi hi'
  rcases b with ⟨⟩ | t <;> rcases b' with ⟨⟩ | t' <;> simp only [xPiece, Sum.elim_inl, Sum.elim_inr] at hi hi'
  · exact hb rfl
  · rw [mem_ownSet] at hi; rw [mem_src_set] at hi'
    refine par_ne t'.1 c (Fin.ext ?_); have := t'.2.isLt; omega
  · rw [mem_ownSet] at hi'; rw [mem_src_set] at hi
    refine par_ne t.1 c (Fin.ext ?_); have := t.2.isLt; omega
  · rw [mem_src_set] at hi hi'
    have h1 := t.2.isLt; have h2 := t'.2.isLt
    have e : par t.1 c = par t'.1 c := Fin.ext (by omega)
    have e1 := par_inj c _ _ e
    rw [e] at hi
    exact hb (congrArg Sum.inr (Prod.ext e1 (Fin.ext (by omega))))

theorem xPiece_cover (c : Dev nD) : Finset.univ.biUnion (xPiece c) = Finset.univ := by
  ext i
  simp only [Finset.mem_biUnion, Finset.mem_univ, true_and, iff_true]
  have hi : (i 0).val < 2048 := (i 0).isLt
  let s : Dev nD := ⟨(i 0).val / 256, by show _ < 8; omega⟩
  have hsv : s.val = (i 0).val / 256 := rfl
  rcases par_surj c s with hs | ⟨d, hs⟩
  · exact ⟨.inl (), (mem_ownSet c i).2 (by rw [← hs]; omega)⟩
  · have ht : (i 0).val / 128 % 2 < 2 := Nat.mod_lt _ (by decide)
    refine ⟨.inr (d, ⟨(i 0).val / 128 % 2, ht⟩), (mem_src_set c (d, ⟨(i 0).val / 128 % 2, ht⟩) i).2 ?_⟩
    dsimp only
    rw [← hs]; omega

/-- The pieces of the landing buffer: each transfer's rows. -/
def gPiece (t : T) : Finset S7x256x256.Idx := (dstM t).view.set

theorem gPiece_disjoint (t t' : T) (hb : t ≠ t') : Disjoint (gPiece t) (gPiece t') := by
  rw [Finset.disjoint_left]
  intro i hi hi'
  unfold gPiece at hi hi'
  rw [mem_dst_set] at hi hi'
  exact hb (Prod.ext (Fin.ext (by omega)) (Fin.ext (by omega)))

theorem gPiece_cover : Finset.univ.biUnion gPiece = Finset.univ := by
  ext i
  simp only [Finset.mem_biUnion, Finset.mem_univ, true_and, iff_true]
  have hi : (i 1).val < 256 := (i 1).isLt
  have ht : (i 1).val / 128 < 2 := by omega
  refine ⟨(i 0, ⟨(i 1).val / 128, ht⟩), (mem_dst_set (i 0, ⟨(i 1).val / 128, ht⟩) i).2 ⟨rfl, ?_⟩⟩
  dsimp only
  omega

/-- Slot `d` of the landing buffer whole: the rectangle its load reads. -/
theorem slot_inb : ∀ d : Fin 7, ∀ a, (![d.val, 0, 0] : Fin 3 → ℕ) a + S1x256x256.size a ≤ S7x256x256.size a := by decide
abbrev slotR (d : Fin 7) : Rect S7x256x256 := Rect.unit (s := S7x256x256) ![d.val, 0, 0] S1x256x256.size (slot_inb d)

/-- A slot's load reads inside the union of its two halves. -/
theorem slot_set (d : Fin 7) : (slotR d).set ⊆ gPiece (d, 0) ∪ gPiece (d, 1) := by
  intro i hi
  have hi' := Rect.mem_set_unit.1 hi
  have h0 := hi' 0; have h1 := hi' 1
  simp at h0 h1
  rw [Finset.mem_union]; unfold gPiece; rw [mem_dst_set, mem_dst_set]
  simp
  omega

/-! ## Where a transfer's element lands -/

theorem src_emb (c : Dev nD) (t : T) (a : Fin 128) (b : Fin 256) :
    ((srcM c t).view.emb (ix2 a b) : S2048x256.Idx)
      = ix2 (⟨256 * (par t.1 c).val + 128 * t.2.val + a.val, by have := (par t.1 c).isLt; have := t.2.isLt; have := a.isLt; have : nD = 8 := rfl; omega⟩ : Fin 2048) b := by
  show ((srcR c t).idx (ix2 a b) : S2048x256.Idx) = _
  funext k
  refine Fin.ext ?_
  fin_cases k
  · show k0_off1 c (BitVec.ofNat 32 (1 + (offm t.1).val)) (BitVec.ofNat 32 (128 * t.2.val)) 0 + 1 * a.val = _
    rw [off1_eq, Nat.one_mul]; rfl
  · show k0_off1 c (BitVec.ofNat 32 (1 + (offm t.1).val)) (BitVec.ofNat 32 (128 * t.2.val)) 1 + 1 * b.val = b.val
    rw [off1_eq, Nat.one_mul]; exact Nat.zero_add _

theorem dst_emb (t : T) (a : Fin 128) (b : Fin 256) :
    ((dstM t).view.emb (ix2 a b) : S7x256x256.Idx)
      = ix3 t.1 (⟨128 * t.2.val + a.val, by have := t.2.isLt; have := a.isLt; omega⟩ : Fin 256) b := by
  show ((dstR t).idx (Shape.reshapeEquiv _ (ix2 a b)) : S7x256x256.Idx) = _
  rw [show Shape.reshapeEquiv _ (ix2 a b) = ix3 (⟨0, Nat.one_pos⟩ : Fin 1) a b from reshapeEquiv_ix2_1ab _ a b]
  funext k
  refine Fin.ext ?_
  fin_cases k
  · show t.1.val + 1 * 0 = t.1.val; omega
  · show 128 * t.2.val + 1 * a.val = 128 * t.2.val + a.val; omega
  · show 0 + 1 * b.val = b.val; omega

end Cert.Exchange
-- ==== Proof.Schedule.lean ====
/-
# The all-to-all's protocol: cells, duties, payloads, levels

A device's cells are its barrier cell, and one send and one receive cell per transfer. The barrier cell has one duty per
slot `d`, paid by `par d c` with one unit and with that device's own landing rows of slot `d`: what `c` needs to write
there. A send cell's one duty hands back the rows sent; a receive cell's one duty hands over the rows landed.
-/
module

public import proofs.«01_k».proof.Proof.Geometry

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds and the exchange's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barCell (c : Dev nD) : GSem nD τ sig := ((c : Thread nD τ), .reg barS)
abbrev sendCell (c : Dev nD) (t : T) : GSem nD τ sig := ((c : Thread nD τ), .dma (sendQ t))
abbrev recvCell (c : Dev nD) (t : T) : GSem nD τ sig := ((c : Thread nD τ), .dma (recvQ t))

/-- The kernel's own scoped semaphores: send, then receive, by transfer. -/
abbrev OI : Type := T ⊕ T
abbrev osem : OI → SemLoc sig := Sum.elim (fun t => .dma (sendQ t)) (fun t => .dma (recvQ t))
/-- All the exchange's semaphores: the barrier, and those. -/
abbrev CI : Type := Unit ⊕ OI
abbrev csem : CI → SemLoc sig := Sum.elim (fun _ => .reg barS) osem
abbrev kcell (ck : Dev nD × CI) : GSem nD τ sig := ((ck.1 : Thread nD τ), csem ck.2)

abbrev kBar : CI := .inl ()
abbrev kSend (t : T) : CI := .inr (.inl t)
abbrev kRecv (t : T) : CI := .inr (.inr t)

/-- The transfer whose semaphore is the `n`-th of a pool. -/
def tOf (n : ℕ) : T := (⟨n / 2 % 7, Nat.mod_lt _ (by decide)⟩, ⟨n % 2, Nat.mod_lt _ (by decide)⟩)

/-- Which of the exchange's semaphores a location is, if any. -/
def dec : SemLoc sig → Option CI
  | .reg q => if q = barS then some kBar else none
  | .dma q => if q.val < 3 then none else if q.val < 17 then some (kSend (tOf (q.val - 3))) else some (kRecv (tOf (q.val - 17)))

theorem dec_csem : ∀ k : CI, dec (csem k) = some k := by decide +kernel
theorem dec_bar : dec (.reg barS) = some kBar := dec_csem kBar
theorem dec_send (t : T) : dec (.dma (sendQ t)) = some (kSend t) := dec_csem (kSend t)
theorem dec_recv (t : T) : dec (.dma (recvQ t)) = some (kRecv t) := dec_csem (kRecv t)

theorem csem_injective : Function.Injective csem := fun k k' h =>
  Option.some.inj ((dec_csem k).symm.trans ((congrArg dec h).trans (dec_csem k')))

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem kcell_eq_iff {a b : Dev nD} {k k' : CI} : (kcell (a, k) = kcell (b, k')) ↔ a = b ∧ k = k' :=
  ⟨fun h => ⟨congrArg Prod.fst (kcell_injective h), congrArg Prod.snd (kcell_injective h)⟩, fun ⟨h, h'⟩ => by rw [h, h']⟩

/-- What one transfer credits. -/
abbrev N : ℕ := (dstM (0, 0)).view.dmaCredit
theorem N_pos : 0 < N := View.dmaCredit_pos _ (by decide)
theorem credit_dst (t : T) : (dstM t).view.dmaCredit = N := rfl
theorem credit_src (c : Dev nD) (t : T) : (srcM c t).view.dmaCredit = N := rfl

/-! ## Contents -/

/-- Device `c`'s staged block of the input, and its staged weights. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- The landing buffer of device `c` when all transfers have landed: slot `d` holds block `c` of `par d c`'s rows. -/
def landed (c : Dev nD) : (cc0_scratch0 : Ref sig .tc).ty.Contents (Elt F) := fun i =>
  xstg m ρ (par (show Fin 7 from i 0) c)
    (ix2 (⟨256 * c.val + (show Fin 256 from i 1).val, by have := c.isLt; have := (show Fin 256 from i 1).isLt; have : nD = 8 := rfl; omega⟩ : Fin 2048) (show Fin 256 from i 2))

/-- The landed contents at an element given by its coordinates. -/
theorem landed_ix3 (c : Dev nD) (d : Fin 7) (a b : Fin 256) :
    landed m ρ c (ix3 d a b) = xstg m ρ (par d c) (ix2 (⟨256 * c.val + a.val, by have := c.isLt; have := a.isLt; have : nD = 8 := rfl; omega⟩ : Fin 2048) b) := rfl

/-- A transfer into device `c` leaves its rows as `landed` has them. -/
theorem landed_eq (c : Dev nD) (t : T) (f : (cc0_scratch0 : Ref sig .tc).ty.Contents (Elt F)) :
    ∀ i ∈ (dstM t).view.set, (dstM t).view.write (Elt F) f ((srcM (par t.1 c) t).view.read (Elt F) (xstg m ρ (par t.1 c))) Finset.univ i
      = landed m ρ c i := by
  intro i hi
  obtain ⟨x, -, rfl⟩ := Finset.mem_map.1 hi
  rw [View.write_emb_of_mem _ _ (Finset.mem_univ x), View.read_apply]
  show xstg m ρ (par t.1 c) ((srcM (par t.1 c) t).view.emb x) = landed m ρ c ((dstM t).view.emb x)
  have hx : x = (ix2 (show Fin 128 from x 0) (show Fin 256 from x 1) : S128x256.Idx) := by
    funext a; fin_cases a <;> rfl
  rw [hx, dst_emb, src_emb, landed_ix3]
  refine congrArg (xstg m ρ (par t.1 c)) ?_
  funext k
  refine Fin.ext ?_
  fin_cases k
  · show 256 * (par t.1 (par t.1 c)).val + 128 * t.2.val + _ = 256 * c.val + (128 * t.2.val + _)
    rw [par_par, Nat.add_assoc]
  · rfl

def gPts (c : Dev nD) (t : T) (f : Buf (Elt F) ((c : Thread nD τ).loc cc0_scratch0)) : sProp 𝕄 :=
  ((c : Thread nD τ).loc cc0_scratch0) ↦[(dstM t).view.set]{fullShare} f
def xPts (c : Dev nD) (t : T) : sProp 𝕄 :=
  ((c : Thread nD τ).loc cc0_stg0_0) ↦[(srcM c t).view.set]{fullShare} xstg m ρ c

omit [FloatOps F] in
instance gPts_storable (c : Dev nD) (t : T) (f) : BI.Storable (upEmb : UEmb _ 𝕄) (gPts (F := F) c t f) := by unfold gPts; infer_instance
omit [FloatOps F] in
instance xPts_storable (c : Dev nD) (t : T) : BI.Storable (upEmb : UEmb _ 𝕄) (xPts (F := F) m ρ c t) := by unfold xPts; infer_instance

/-! ## The schedule -/

/-- What the signal of `par d c` (duty `d` of `c`'s barrier cell) hands `c`: the rows of slot `d` on `par d c`. -/
def barPay (c : Dev nD) (d : Fin 7) : sProp 𝕄 := iprop((∃ f, gPts (par d c) (d, 0) f) ∗ (∃ f, gPts (par d c) (d, 1) f))

def payOf (c : Dev nD) (d : Fin 7) : Option CI → sProp 𝕄
  | none => iprop(emp)
  | some (.inl _) => barPay c d
  | some (.inr (.inl t)) => xPts m ρ c t
  | some (.inr (.inr t)) => gPts c t (landed m ρ c)

def dutiesOf : Option CI → Finset (Fin 7)
  | none => ∅
  | some (.inl _) => Finset.univ
  | some (.inr _) => {0}

def amountOf' : Option CI → ℕ
  | some (.inr _) => N
  | _ => 1

/-- One round: a barrier cell has a duty of one unit per slot, a send or receive cell one duty of a transfer's credit. -/
def exRd : Rounds.Schedule (GSem nD τ sig) (Fin 7) 𝕄 where
  duties g r := if r = 0 ∧ g.1.2 = .tc then dutiesOf (dec g.2) else ∅
  unitless _ := False
  amount g _ _ := amountOf' (dec g.2)
  payload g _ d := payOf m ρ g.1.1 d (dec g.2)
  amount_pos g _ _ _ := by
    show 0 < amountOf' (dec g.2)
    rcases dec g.2 with _ | ⟨_ | _⟩
    · exact Nat.one_pos
    · exact Nat.one_pos
    · exact N_pos

instance exRd_payload_storable (g : GSem nD τ sig) (r : ℕ) (d : Fin 7) :
    BI.Storable (upEmb : UEmb _ 𝕄) ((exRd (F := F) m ρ).payload g r d) := by
  show BI.Storable upEmb (payOf m ρ g.1.1 d (dec g.2))
  rcases dec g.2 with _ | ⟨_ | _ | _⟩ <;> dsimp only [payOf] <;> (try unfold barPay) <;> infer_instance

section Sched
variable (c : Dev nD) (t : T) (d : Fin 7)

theorem duties_bar : (exRd (F := F) m ρ).duties (barCell c) 0 = Finset.univ := by
  dsimp only [exRd]; rw [if_pos ⟨rfl, rfl⟩, dec_bar]; rfl
theorem duties_send : (exRd (F := F) m ρ).duties (sendCell c t) 0 = {0} := by
  dsimp only [exRd]; rw [if_pos ⟨rfl, rfl⟩, dec_send]; rfl
theorem duties_recv : (exRd (F := F) m ρ).duties (recvCell c t) 0 = {0} := by
  dsimp only [exRd]; rw [if_pos ⟨rfl, rfl⟩, dec_recv]; rfl
theorem duties_later (g : GSem nD τ sig) : ∀ r, 1 ≤ r → (exRd (F := F) m ρ).duties g r = ∅ :=
  fun r hr => by dsimp only [exRd]; rw [if_neg fun h => by omega]

theorem amount_bar : (exRd (F := F) m ρ).amount (barCell c) 0 d = 1 := by dsimp only [exRd]; rw [dec_bar]; rfl
theorem amount_send : (exRd (F := F) m ρ).amount (sendCell c t) 0 d = N := by dsimp only [exRd]; rw [dec_send]; rfl
theorem amount_recv : (exRd (F := F) m ρ).amount (recvCell c t) 0 d = N := by dsimp only [exRd]; rw [dec_recv]; rfl

theorem expect_bar : (exRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send : (exRd (F := F) m ρ).expect (sendCell c t) 0 = N := by
  unfold Schedule.expect Schedule.amountOf; rw [duties_send, Finset.sum_singleton, amount_send]
theorem expect_recv : (exRd (F := F) m ρ).expect (recvCell c t) 0 = N := by
  unfold Schedule.expect Schedule.amountOf; rw [duties_recv, Finset.sum_singleton, amount_recv]

theorem payload_bar : (exRd (F := F) m ρ).payload (barCell c) 0 d = barPay c d := by dsimp only [exRd]; rw [dec_bar]; rfl
theorem payload_send : (exRd (F := F) m ρ).payload (sendCell c t) 0 d = xPts m ρ c t := by dsimp only [exRd]; rw [dec_send]; rfl
theorem payload_recv : (exRd (F := F) m ρ).payload (recvCell c t) 0 d = gPts c t (landed m ρ c) := by dsimp only [exRd]; rw [dec_recv]; rfl

/-- The rest of a cell's round with no duty taken: all its payloads. -/
theorem rest_bar : bigSep ((exRd (F := F) m ρ).duties (barCell c) 0 \ ∅) (fun d => (exRd (F := F) m ρ).payload (barCell c) 0 d)
    = bigSep Finset.univ fun d => barPay c d := by
  rw [Finset.sdiff_empty, duties_bar]; exact bigSep_congr fun d _ => payload_bar m ρ c d
theorem rest_send : bigSep ((exRd (F := F) m ρ).duties (sendCell c t) 0 \ ∅) (fun d => (exRd (F := F) m ρ).payload (sendCell c t) 0 d) = xPts m ρ c t := by
  rw [Finset.sdiff_empty, duties_send, bigSep_singleton, payload_send]
theorem rest_recv : bigSep ((exRd (F := F) m ρ).duties (recvCell c t) 0 \ ∅) (fun d => (exRd (F := F) m ρ).payload (recvCell c t) 0 d) = gPts c t (landed m ρ c) := by
  rw [Finset.sdiff_empty, duties_recv, bigSep_singleton, payload_recv]

end Sched

/-! ## What a device owes at launch; the levels -/

/-- The receive credits owed for the transfers `l` still to be started, the next one outermost. -/
def owedSend (c : Dev nD) : List T → CellTallies nD τ sig Unit
  | [] => 0
  | t :: l => owedSend c l + tallyAt (recvCell (par t.1 c) t) () N

/-- The order the kernel starts its transfers in: first halves, then second halves, the farthest slot first. -/
abbrev sendOrder : List T :=
  [(6, 0), (5, 0), (4, 0), (3, 0), (2, 0), (1, 0), (0, 0), (6, 1), (5, 1), (4, 1), (3, 1), (2, 1), (1, 1), (0, 1)]
/-- The order the kernel waits for them in. -/
abbrev waitOrder : List T :=
  [(0, 0), (0, 1), (1, 0), (1, 1), (2, 0), (2, 1), (3, 0), (3, 1), (4, 0), (4, 1), (5, 0), (5, 1), (6, 0), (6, 1)]
abbrev sigOrder : List (Fin 7) := [0, 1, 2, 3, 4, 5, 6]

/-- Those for all transfers, and the barrier units of the signals `l` still to be sent, the next one outermost. -/
def owedSig (c : Dev nD) : List (Fin 7) → CellTallies nD τ sig Unit
  | [] => owedSend c sendOrder
  | d :: l => owedSig c l + tallyAt (barCell (par d c)) () 1

def O₀ (c : Dev nD) : CellTallies nD τ sig Unit := owedSig c sigOrder

def L (g : GSem nD τ sig) : Finset Unit := if g.1.2 = .tc then {()} else ∅
def lvOf : Option CI → ℕ
  | some (.inl _) => 1
  | some (.inr (.inr _)) => 2
  | _ => 0
/-- Barrier cells at 1, receive cells at 2, everything else (staging, send) at 0. -/
def lv (g : GSem nD τ sig) (_ : Unit) : ℕ := lvOf (dec g.2)

theorem L_of_ne (g : GSem nD τ sig) (h : g.1.2 ≠ .tc) : L g = ∅ := if_neg h
theorem L_tc (c : Dev nD) (sm : SemLoc sig) : L ((c : Thread nD τ), sm) = {()} := if_pos rfl

theorem owedSend_pos {c : Dev nD} {l : List T} {g : GSem nD τ sig} {u : Unit} (h : 0 < owedSend c l g u) :
    ∃ t, g = recvCell (par t.1 c) t := by
  induction l with
  | nil => exact absurd h (Nat.lt_irrefl 0)
  | cons t l ih =>
    unfold owedSend at h
    rw [Pi.add_apply, Finsupp.add_apply, tallyAt_apply] at h
    by_cases hg : g = recvCell (par t.1 c) t ∧ u = ()
    · exact ⟨t, hg.1⟩
    · rw [if_neg hg] at h; exact ih h

theorem owedSig_pos {c : Dev nD} {l : List (Fin 7)} {g : GSem nD τ sig} {u : Unit} (h : 0 < owedSig c l g u) :
    (∃ t, g = recvCell (par t.1 c) t) ∨ ∃ d, g = barCell (par d c) := by
  induction l with
  | nil => exact Or.inl (owedSend_pos h)
  | cons d l ih =>
    unfold owedSig at h
    rw [Pi.add_apply, Finsupp.add_apply, tallyAt_apply] at h
    by_cases hg : g = barCell (par d c) ∧ u = ()
    · exact Or.inr ⟨d, hg.1⟩
    · rw [if_neg hg] at h; exact ih h

omit [FloatOps F] in
/-- A device may wait on a cell of level 0 whatever of its launch debts is left. -/
theorem mayWait_stage (c : Dev nD) (q : DmaSem sig) (hq : lvOf (dec (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedSig_pos hg with ⟨t, rfl⟩ | ⟨d, rfl⟩ <;> exact Finset.mem_singleton_self _)
      (fun p hp => by rw [Finset.mem_singleton.mp hp]; dsimp only [lv]; rw [hq])
      (fun g u hg => by
        rcases owedSig_pos hg with ⟨t, rfl⟩ | ⟨d, rfl⟩
        · dsimp only [lv]; rw [dec_recv]; exact Nat.two_pos
        · dsimp only [lv]; rw [dec_bar]; decide)
  · rw [MayWait_zero]; iintro -; iempintro

omit [FloatOps F] in
/-- At its barrier wait a device owes receive credits only: above its barrier cell. -/
theorem mayWait_bar (c : Dev nD) :
    (levAts L lv : sProp 𝕄) ⊢ MayWait (c : Thread nD τ) (.reg barS) () (owedSend c sendOrder) :=
  MayOwe.of_cut (L := L) (lev := lv) 1 (fun p hp => by rw [Finset.mem_singleton.mp hp, L_tc]; exact Finset.mem_singleton_self _)
    (fun g u hg => by obtain ⟨t, rfl⟩ := owedSend_pos hg; exact Finset.mem_singleton_self _)
    (fun p hp => by rw [Finset.mem_singleton.mp hp]; dsimp only [lv]; rw [dec_bar]; decide)
    (fun g u hg => by obtain ⟨t, rfl⟩ := owedSend_pos hg; dsimp only [lv]; rw [dec_recv]; exact Nat.lt_add_one 1)

end Cert.Exchange
-- ==== Proof.Steps.lean ====
/-
# The exchange's steps

One lemma per kind of effect of the kernel's body. Each says: from the state after the effect the rest of the program
runs to `Q`, so from the state before it the program with the effect runs to `Q`. A state keeps the transfers that are
still to be handled and those handled as lists, so that the same lemma serves every transfer.
-/
module

public import proofs.«01_k».proof.Proof.Schedule
public import Idealize.ShloMosaic.Lib.Pipeline.BigSepL

@[expose] public section

noncomputable section

namespace Cert.Exchange

open Cert.KernelIdeal Cert.KernelIdeal.Gen
open Idealize.ShloMosaic Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` runs `p` to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What every step may read: the cells' invariants, that round 0 is reached everywhere, the levels -/

def ctx (K : Dev nD × CI → ℕ) : sProp 𝕄 :=
  iprop((bigSep Finset.univ fun ck : Dev nD × CI => cellInv ER (exRd m ρ) (K ck) (kcell ck))
    ∗ (bigSep Finset.univ fun ck : Dev nD × CI => reached ER (kcell ck) 0) ∗ levAts L lv)

instance ctx_persistent (K : Dev nD × CI → ℕ) : BI.Persistent (ctx m ρ K) := by unfold ctx; infer_instance

theorem ctx_inv (K : Dev nD × CI → ℕ) (c : Dev nD) (k : CI) : ctx m ρ K ⊢ cellInv ER (exRd m ρ) (K (c, k)) (kcell (c, k)) := by
  have hh : (bigSep Finset.univ fun ck : Dev nD × CI => (cellInv ER (exRd m ρ) (K ck) (kcell ck) : sProp 𝕄))
    ⊢ cellInv ER (exRd m ρ) (K (c, k)) (kcell (c, k)) := bigSep_elim (Finset.mem_univ (c, k))
  unfold ctx
  iintro ⟨H, -, -⟩
  iapply hh; iexact H
theorem ctx_reached (K : Dev nD × CI → ℕ) (c : Dev nD) (k : CI) : ctx m ρ K ⊢ reached ER (kcell (c, k)) 0 := by
  have hh : (bigSep Finset.univ fun ck : Dev nD × CI => (reached ER (kcell ck) 0 : sProp 𝕄)) ⊢ reached ER (kcell (c, k)) 0 :=
    bigSep_elim (Finset.mem_univ (c, k))
  unfold ctx
  iintro ⟨-, H, -⟩
  iapply hh; iexact H
theorem ctx_lev (K : Dev nD × CI → ℕ) : ctx m ρ K ⊢ levAts L lv := by
  unfold ctx
  iintro ⟨-, -, H⟩; iexact H

/-- What device `c` still owes is `O`, whatever it has waited on. -/
def ow (c : Dev nD) (O : CellTallies nD τ sig Unit) : sProp 𝕄 := iprop(∃ W, owes (c : Thread nD τ) O W)

variable (K : Dev nD × CI → ℕ) (c : Dev nD)

/-! ## Signals -/

/-- What `c` needs for its signal to `par d c`: the duty's token and its own rows of slot `d`. -/
def sigPre (d : Fin 7) : sProp 𝕄 :=
  iprop(dutyTok ER (barCell (par d c)) 0 d ∗ (∃ f, gPts c (d, 0) f) ∗ (∃ f, gPts c (d, 1) f))

theorem step_signal {α : Type} {R : sProp 𝕄} {Q : α → sProp 𝕄} {k : PUnit → Prog (TpuEff nD τ sig (Elt F) Λ₀ .tc) α}
    (d : Fin 7) (l : List (Fin 7)) (n : Dev nD) (hn : n = par d c) (w : Int) (hw : w = ((1 : ℕ) : Int))
    (h : iprop(ctx m ρ K ∗ ow c (owedSig c l) ∗ bigSepL l (sigPre c) ∗ R) ⊢ WP c (k ⟨⟩) Q) :
    iprop(ctx m ρ K ∗ ow c (owedSig c (d :: l)) ∗ bigSepL (d :: l) (sigPre c) ∗ R)
      ⊢ WP c (.op (.semSignal (Dev.tc n : Thread nD τ) barS w) k) Q := by
  subst hn; subst hw
  rw [bigSepL_cons']
  unfold ow sigPre
  iintro ⟨#Hc, ⟨%W, HO⟩, ⟨⟨Ht, H0, H1⟩, Hl⟩, HR⟩
  iapply (Rounds.wp_signal 𝒱₀ ER (exRd m ρ) (c : Thread nD τ) none (dst := (par d c : Thread nD τ)) (κ := K (par d c, kBar))
      (d := d) (by rw [duties_bar]; exact Finset.mem_univ _) (amount_bar m ρ (par d c) d) () (owedSig c l) rfl) $$ [HO Ht H0 H1]
  · isplitr; · iapply (ctx_inv m ρ K (par d c) kBar); iexact Hc
    isplitl [HO]; · iexact HO
    isplitl [Ht]; · iexact Ht
    isplitl [H0 H1]
    · rw [payload_bar]; unfold barPay; rw [par_par]
      isplitl [H0]; · iexact H0
      iexact H1
    · iapply (ctx_reached m ρ K (par d c) kBar); iexact Hc
  iintro HO
  iapply h
  isplitr; · iexact Hc
  isplitl [HO]; · unfold ow; iexists W; iexact HO
  isplitl [Hl]; · iexact Hl
  iexact HR

/-- The wait for the seven units: what the partners hand over, and the barrier cell closed. -/
theorem step_barrier {α : Type} {R : sProp 𝕄} {Q : α → sProp 𝕄} {k : PUnit → Prog (TpuEff nD τ sig (Elt F) Λ₀ .tc) α}
    (w : Int) (hw : w = ((7 : ℕ) : Int))
    (h : iprop(ctx m ρ K ∗ ow c (owedSend c sendOrder) ∗ (bigSep Finset.univ fun d => barPay c d) ∗ semVal (barCell c) 0 ∗ R) ⊢ WP c (k ⟨⟩) Q) :
    iprop(ctx m ρ K ∗ ow c (owedSig c []) ∗ (cred (tallyAt (barCell c) () 7) ∗ atPos ER (barCell c) 0 ∅ 0) ∗ R)
      ⊢ WP c (.op (.semWait barS w) k) Q := by
  subst hw
  unfold ow
  iintro ⟨#Hc, ⟨%W, HO⟩, ⟨Hcr, Hat⟩, HR⟩
  iapply (Rounds.wp_wait_rest_token 𝒱₀ ER (exRd m ρ) (c : Thread nD τ) none (κ := K (c, kBar))
      (wpE_semWait_eq 𝒱₀ (c : Thread nD τ) none Set.univ) (Set.mem_univ _) () (O := owedSend c sendOrder) (W := W) (R := 0) (m := 0) (T := ∅)
      (by rw [expect_bar])) $$ [Hcr HO Hat]
  · isplitr; · iapply (ctx_inv m ρ K c kBar); iexact Hc
    isplitl [Hcr]; · iexact Hcr
    isplitl [HO]; · iexact HO
    isplitr; · iapply (mayWait_bar c); iapply (ctx_lev m ρ K); iexact Hc
    iexact Hat
  iintro ⟨HO, Hat, -, Hpay⟩
  ihave Hp := (Entails.of_eq (rest_bar m ρ c)) $$ Hpay
  imod (Rounds.cell_close ER (exRd m ρ) (Set.mem_univ (K (c, kBar))) (fun h => h) (R := 0 + 1) (duties_later m ρ (barCell c))) $$ [Hat] with Hz
  · isplitr; · iapply (ctx_inv m ρ K c kBar); iexact Hc
    iexact Hat
  iapply h
  isplitr; · iexact Hc
  isplitl [HO]; · unfold ow; iexists _; iexact HO
  isplitl [Hp]; · iexact Hp
  isplitl [Hz]; · iexact Hz
  iexact HR

/-! ## Transfers -/

/-- What `c` needs to start transfer `t`: the tokens of both its duties, the partner's landing rows, its own rows. -/
def sendPre (t : T) : sProp 𝕄 :=
  iprop(dutyTok ER (sendCell c t) 0 0 ∗ dutyTok ER (recvCell (par t.1 c) t) 0 0 ∗ (∃ f, gPts (par t.1 c) t f) ∗ xPts m ρ c t)
/-- What starting it leaves: the send cell's credit. -/
def sendCred (t : T) : sProp 𝕄 := cred (tallyAt (sendCell c t) () N)

set_option maxHeartbeats 1000000 in
theorem step_send {α : Type} {R : sProp 𝕄} {Q : α → sProp 𝕄} {k : PUnit → Prog (TpuEff nD τ sig (Elt F) Λ₀ .tc) α}
    (t : T) (l l' : List T) (n : Dev nD) (hn : n = par t.1 c)
    {src : Memref sig .tc .vmem S128x256 .bf16} {dst : Memref sig .tc .vmem S128x256 .bf16} {sS sR : DmaSem sig}
    (hs : src = srcM c t) (hd : dst = dstM t) (hsS : sS = sendQ t) (hsR : sR = recvQ t)
    {hsc : dst.view.ref.isScScratch = false} {hsrc : src.view.WordExact} {hdst : dst.view.WordExact}
    {hsem : DmaTarget.Typed .vmem (.dma sR) (.remote (Dev.tc n : Thread nD τ) dst (.dma sS) hsc)}
    (h : iprop(ctx m ρ K ∗ ow c (owedSend c l) ∗ bigSepL l (sendPre m ρ c) ∗ bigSepL (t :: l') (sendCred c) ∗ R) ⊢ WP c (k ⟨⟩) Q) :
    iprop(ctx m ρ K ∗ ow c (owedSend c (t :: l)) ∗ bigSepL (t :: l) (sendPre m ρ c) ∗ bigSepL l' (sendCred c) ∗ R)
      ⊢ WP c (.op (.enqueueDma src (.remote (Dev.tc n : Thread nD τ) dst (.dma sS) hsc) (.dma sR) hsrc hdst hsem) k) Q := by
  subst hn hs hd hsS hsR
  rw [bigSepL_cons'] at h
  rw [bigSepL_cons']
  unfold ow sendPre xPts
  iintro ⟨#Hc, ⟨%W, HO⟩, ⟨⟨Hts, Htr, ⟨%f, Hg⟩, Hx⟩, Hl⟩, Hcr, HR⟩
  unfold gPts
  iapply (Rounds.wp_send_pointsTo 𝒱₀ ER (exRd m ρ) (c : Thread nD τ) none (κ₁ := K (c, kSend t)) (κ₂ := K (par t.1 c, kRecv t))
    (r₁ := 0) (r₂ := 0) (d₁ := 0) (d₂ := 0) (fd := f)
    (by rw [duties_send]; exact Finset.mem_singleton_self _) (by rw [duties_recv]; exact Finset.mem_singleton_self _)
    () () N (show (dstM t).view.amount (.dma (recvQ t)) = N from credit_dst t) (amount_send m ρ c t 0) (amount_recv m ρ (par t.1 c) t 0) (owedSend c l) rfl (W := W)
    (by rw [payload_send]; unfold xPts; exact BI.Entails.refl _)
    (by
      rw [payload_recv]; unfold gPts
      refine Entails.of_eq (pointsTo_congr fun i hi => ?_)
      have hl := landed_eq m ρ (par t.1 c) t f i hi
      rw [par_par] at hl
      exact hl)) $$ [HO Hts Htr Hg Hx]
  · isplitr; · iapply (ctx_inv m ρ K c (kSend t)); iexact Hc
    isplitr; · iapply (ctx_inv m ρ K (par t.1 c) (kRecv t)); iexact Hc
    isplitl [Hx]; · iexact Hx
    isplitl [Hg]; · iexact Hg
    isplitl [HO]; · iexact HO
    isplitl [Hts]; · iexact Hts
    isplitr; · iapply (ctx_reached m ρ K c (kSend t)); iexact Hc
    isplitl [Htr]; · iexact Htr
    iapply (ctx_reached m ρ K (par t.1 c) (kRecv t)); iexact Hc
  iintro ⟨Hn, HO⟩
  iapply h
  isplitr; · iexact Hc
  isplitl [HO]; · unfold ow; iexists W; iexact HO
  isplitl [Hl]; · unfold sendPre xPts; iexact Hl
  isplitl [Hn Hcr]
  · isplitl [Hn]; · unfold sendCred; iexact Hn
    iexact Hcr
  iexact HR

/-! ## The waits for the landings and for the sends -/

/-- Waiting for transfer `t`'s landing takes the receive cell's credit and position, -/
def recvPre (t : T) : sProp 𝕄 := iprop(cred (tallyAt (recvCell c t) () N) ∗ atPos ER (recvCell c t) 0 ∅ 0)
/-- and leaves the rows landed and the cell closed. -/
def recvPost (t : T) : sProp 𝕄 := iprop(gPts c t (landed m ρ c) ∗ semVal (recvCell c t) 0)

theorem step_recv {α : Type} {R : sProp 𝕄} {Q : α → sProp 𝕄} {k : PUnit → Prog (TpuEff nD τ sig (Elt F) Λ₀ .tc) α}
    (t : T) (l l' : List T) {src dst : Memref sig .tc .vmem S128x256 .bf16} {sR : DmaSem sig} (hd : dst = dstM t) (hsR : sR = recvQ t)
    {hsrc : src.view.WordExact} {hdst : dst.view.WordExact}
    (h : iprop(ctx m ρ K ∗ ow c 0 ∗ bigSepL l (recvPre c) ∗ bigSepL (t :: l') (recvPost m ρ c) ∗ R) ⊢ WP c (k ⟨⟩) Q) :
    iprop(ctx m ρ K ∗ ow c 0 ∗ bigSepL (t :: l) (recvPre c) ∗ bigSepL l' (recvPost m ρ c) ∗ R)
      ⊢ WP c (.op (.waitDma2 sR src dst hsrc hdst) k) Q := by
  subst hd hsR
  rw [bigSepL_cons'] at h
  rw [bigSepL_cons']
  unfold ow recvPre
  iintro ⟨#Hc, ⟨%W, HO⟩, ⟨⟨Hcr, Hat⟩, Hl⟩, Hl', HR⟩
  iapply (Rounds.wp_wait_rest_token 𝒱₀ ER (exRd m ρ) (c : Thread nD τ) none (κ := K (c, kRecv t))
      (wpE_waitDma2_eq 𝒱₀ (c : Thread nD τ) none Set.univ) (Set.mem_univ _) () (O := 0) (W := W) (R := 0) (m := 0) (T := ∅)
      (by rw [Nat.zero_add, expect_recv])) $$ [Hcr HO Hat]
  · isplitr; · iapply (ctx_inv m ρ K c (kRecv t)); iexact Hc
    isplitl [Hcr]; · iexact Hcr
    isplitl [HO]; · iexact HO
    isplitr; · rw [MayWait_zero]; iempintro
    iexact Hat
  iintro ⟨HO, Hat, -, Hpay⟩
  ihave Hp := (Entails.of_eq (rest_recv m ρ c t)) $$ Hpay
  imod (Rounds.cell_close ER (exRd m ρ) (Set.mem_univ (K (c, kRecv t))) (fun h => h) (R := 0 + 1) (duties_later m ρ (recvCell c t))) $$ [Hat] with Hz
  · isplitr; · iapply (ctx_inv m ρ K c (kRecv t)); iexact Hc
    iexact Hat
  iapply h
  isplitr; · iexact Hc
  isplitl [HO]; · unfold ow; iexists _; iexact HO
  isplitl [Hl]; · unfold recvPre; iexact Hl
  isplitl [Hp Hz Hl']
  · isplitl [Hp Hz]
    · unfold recvPost
      isplitl [Hp]; · iexact Hp
      iexact Hz
    iexact Hl'
  iexact HR

/-- Waiting for transfer `t`'s send takes the send cell's credit and position, -/
def sentPre (t : T) : sProp 𝕄 := iprop(sendCred c t ∗ atPos ER (sendCell c t) 0 ∅ 0)
/-- and leaves the rows sent, back, and the cell closed. -/
def sentPost (t : T) : sProp 𝕄 := iprop(xPts m ρ c t ∗ semVal (sendCell c t) 0)

theorem step_sent {α : Type} {R : sProp 𝕄} {Q : α → sProp 𝕄} {k : PUnit → Prog (TpuEff nD τ sig (Elt F) Λ₀ .tc) α}
    (t : T) (l l' : List T) {src dst : Memref sig .tc .vmem S128x256 .bf16} {sS : DmaSem sig} (hd : dst = srcM c t) (hsS : sS = sendQ t)
    {hsrc : src.view.WordExact} {hdst : dst.view.WordExact}
    (h : iprop(ctx m ρ K ∗ ow c 0 ∗ bigSepL l (sentPre c) ∗ bigSepL (t :: l') (sentPost m ρ c) ∗ R) ⊢ WP c (k ⟨⟩) Q) :
    iprop(ctx m ρ K ∗ ow c 0 ∗ bigSepL (t :: l) (sentPre c) ∗ bigSepL l' (sentPost m ρ c) ∗ R)
      ⊢ WP c (.op (.waitDma2 sS src dst hsrc hdst) k) Q := by
  subst hd hsS
  rw [bigSepL_cons'] at h
  rw [bigSepL_cons']
  unfold ow sentPre sendCred
  iintro ⟨#Hc, ⟨%W, HO⟩, ⟨⟨Hcr, Hat⟩, Hl⟩, Hl', HR⟩
  iapply (Rounds.wp_wait_rest_token 𝒱₀ ER (exRd m ρ) (c : Thread nD τ) none (κ := K (c, kSend t))
      (wpE_waitDma2_eq 𝒱₀ (c : Thread nD τ) none Set.univ) (Set.mem_univ _) () (O := 0) (W := W) (R := 0) (m := 0) (T := ∅)
      (by rw [Nat.zero_add, expect_send])) $$ [Hcr HO Hat]
  · isplitr; · iapply (ctx_inv m ρ K c (kSend t)); iexact Hc
    isplitl [Hcr]; · iexact Hcr
    isplitl [HO]; · iexact HO
    isplitr; · rw [MayWait_zero]; iempintro
    iexact Hat
  iintro ⟨HO, Hat, -, Hpay⟩
  ihave Hp := (Entails.of_eq (rest_send m ρ c t)) $$ Hpay
  imod (Rounds.cell_close ER (exRd m ρ) (Set.mem_univ (K (c, kSend t))) (fun h => h) (R := 0 + 1) (duties_later m ρ (sendCell c t))) $$ [Hat] with Hz
  · isplitr; · iapply (ctx_inv m ρ K c (kSend t)); iexact Hc
    iexact Hat
  iapply h
  isplitr; · iexact Hc
  isplitl [HO]; · unfold ow; iexists _; iexact HO
  isplitl [Hl]; · unfold sentPre sendCred; iexact Hl
  isplitl [Hp Hz Hl']
  · isplitl [Hp Hz]
    · unfold sentPost
      isplitl [Hp]; · iexact Hp
      iexact Hz
    iexact Hl'
  iexact HR

/-! ## Loads and the store -/

/-- The rows `c` keeps, its weights, its result's staging buffer. -/
def xOwn : sProp 𝕄 := ((c : Thread nD τ).loc cc0_stg0_0) ↦[ownSet c]{fullShare} xstg m ρ c
def wPts : sProp 𝕄 := ((c : Thread nD τ).loc cc0_stg1_0) ↦{fullShare} wstg m ρ c
def oPts (f : (cc0_stg2_0 : Ref sig .tc).ty.Contents (Elt F)) : sProp 𝕄 := ((c : Thread nD τ).loc cc0_stg2_0) ↦{fullShare} f

/-- The rows of the weights slot `d`'s product reads. -/
abbrev wR (d : Fin 7) : Rect S2048x2048 :=
  Rect.unit (s := S2048x2048) (k0_off4 c (BitVec.ofNat 32 (1 + (offm d).val))) S256x2048.size (k0_off4_inb c (offm d))
abbrev wOwnR : Rect S2048x2048 := Rect.unit (s := S2048x2048) (k0_off3 c) S256x2048.size (k0_off3_inb c)
abbrev oR : Rect S256x2048 := Rect.unit (s := S256x2048) ![0, 0] S256x2048.size inb_S256x2048_S256x2048_0_0

/-- What the loads read: the kept block, the weights' blocks, the landed blocks. -/
def xOwnV : Vec F S256x256 .bf16 := xM.view.readAt (Elt F) (ownR c).toLoadRect (xstg m ρ c)
def wOwnV : Vec F S256x2048 .bf16 := wM.view.readAt (Elt F) (wOwnR c).toLoadRect (wstg m ρ c)
def wV (d : Fin 7) : Vec F S256x2048 .bf16 := wM.view.readAt (Elt F) (wR c d).toLoadRect (wstg m ρ c)
def slotV (d : Fin 7) : Vec F S1x256x256 .bf16 := gM.view.readAt (Elt F) (slotR d).toLoadRect (landed m ρ c)

/-- The state between the waits for the landings: the lists of those, and the buffers the arithmetic uses. -/
def stC (l l' : List T) (f : (cc0_stg2_0 : Ref sig .tc).ty.Contents (Elt F)) (R : sProp 𝕄) : sProp 𝕄 :=
  iprop(ctx m ρ K ∗ ow c 0 ∗ bigSepL l (recvPre c) ∗ bigSepL l' (recvPost m ρ c) ∗ (xOwn m ρ c ∗ wPts m ρ c ∗ oPts c f ∗ R))

variable (l l' : List T) (f : (cc0_stg2_0 : Ref sig .tc).ty.Contents (Elt F))

theorem step_load_x {α : Type} {R : sProp 𝕄} {Q : α → sProp 𝕄} {k : Vec F S256x256 .bf16 → Prog (TpuEff nD τ sig (Elt F) Λ₀ .tc) α}
    {hl : xM.view.LoadsAt (ownR c).toLoadRect}
    (h : stC m ρ K c l l' f R ⊢ WP c (k (xOwnV m ρ c)) Q) :
    stC m ρ K c l l' f R ⊢ WP c (.op (.load xM (ownR c).toLoadRect hl) k) Q := by
  unfold stC xOwn at h ⊢
  iintro ⟨#Hc, HO, Hl, Hl', Hx, HR⟩
  iapply (wp_load 𝒱₀ (c : Thread nD τ) none Set.univ (m := xM) (r := (ownR c).toLoadRect) (S := ownSet c)
    (by
      intro i hi
      obtain ⟨x, hx, rfl⟩ := Finset.mem_map.1 hi
      exact hx)) $$ Hx
  iintro Hx
  iapply h
  isplitr; · iexact Hc
  isplitl [HO]; · iexact HO
  isplitl [Hl]; · iexact Hl
  isplitl [Hl']; · iexact Hl'
  isplitl [Hx]; · iexact Hx
  iexact HR

theorem step_load_w {α : Type} {R : sProp 𝕄} {Q : α → sProp 𝕄} {r : Rect S2048x2048} {k : (r.shape.Idx → Elt F .bf16) → Prog (TpuEff nD τ sig (Elt F) Λ₀ .tc) α}
    {hl : wM.view.LoadsAt r.toLoadRect}
    (h : stC m ρ K c l l' f R ⊢ WP c (k (wM.view.readAt (Elt F) r.toLoadRect (wstg m ρ c))) Q) :
    stC m ρ K c l l' f R ⊢ WP c (.op (.load wM r.toLoadRect hl) k) Q := by
  unfold stC wPts at h ⊢
  iintro ⟨#Hc, HO, Hl, Hl', Hx, Hw, HR⟩
  iapply (wp_load 𝒱₀ (c : Thread nD τ) none Set.univ (m := wM) (Finset.subset_univ _)) $$ Hw
  iintro Hw
  iapply h
  isplitr; · iexact Hc
  isplitl [HO]; · iexact HO
  isplitl [Hl]; · iexact Hl
  isplitl [Hl']; · iexact Hl'
  isplitl [Hx]; · iexact Hx
  isplitl [Hw]; · iexact Hw
  iexact HR

omit [FloatOps F] in
theorem hz : (![0, 0] : Fin 2 → Nat) = fun _ => 0 := funext fun a => by fin_cases a <;> rfl

theorem step_load_o {α : Type} {R : sProp 𝕄} {Q : α → sProp 𝕄} {k : Vec F S256x2048 .f32 → Prog (TpuEff nD τ sig (Elt F) Λ₀ .tc) α}
    {hl : oM.view.LoadsAt oR.toLoadRect}
    (h : stC m ρ K c l l' f R ⊢ WP c (k f) Q) :
    stC m ρ K c l l' f R ⊢ WP c (.op (.load oM oR.toLoadRect hl) k) Q := by
  unfold stC oPts at h ⊢
  iintro ⟨#Hc, HO, Hl, Hl', Hx, Hw, Ho, HR⟩
  iapply (wp_load 𝒱₀ (c : Thread nD τ) none Set.univ (m := oM) (Finset.subset_univ _)) $$ Ho
  iintro Ho
  rw [show oM.view.readAt (Elt F) oR.toLoadRect f = f from Memref.readAt_unit_zero (Elt F) cc0_stg2_0 hz _ f]
  iapply h
  isplitr; · iexact Hc
  isplitl [HO]; · iexact HO
  isplitl [Hl]; · iexact Hl
  isplitl [Hl']; · iexact Hl'
  isplitl [Hx]; · iexact Hx
  isplitl [Hw]; · iexact Hw
  isplitl [Ho]; · iexact Ho
  iexact HR

theorem step_store_o {α : Type} {R : sProp 𝕄} {Q : α → sProp 𝕄} {k : PUnit → Prog (TpuEff nD τ sig (Elt F) Λ₀ .tc) α} (v : FVec F S256x2048 .f32)
    {hx : (oM.access oR).Stores Finset.univ} {hm : (Finset.univ : Finset oR.shape.Idx) = Finset.univ ∨ ∀ a, oR.stride a = 1}
    (h : stC m ρ K c l l' v R ⊢ WP c (k ⟨⟩) Q) :
    stC m ρ K c l l' f R ⊢ WP c (.op (.store oM oR v Finset.univ hx hm) k) Q := by
  unfold stC oPts at h ⊢
  iintro ⟨#Hc, HO, Hl, Hl', Hx, Hw, Ho, HR⟩
  iapply (wp_store 𝒱₀ (c : Thread nD τ) none Set.univ (m := oM) (r := oR) (Mk := Finset.univ) (Finset.subset_univ _)) $$ Ho
  iintro Ho
  rw [show (oM.access oR : View sig .tc _ _ _).write (Elt F) f v Finset.univ = v from Memref.write_access_unit_zero_univ (Elt F) cc0_stg2_0 hz _ f v]
  iapply h
  isplitr; · iexact Hc
  isplitl [HO]; · iexact HO
  isplitl [Hl]; · iexact Hl
  isplitl [Hl']; · iexact Hl'
  isplitl [Hx]; · iexact Hx
  isplitl [Hw]; · iexact Hw
  isplitl [Ho]; · iexact Ho
  iexact HR

/-- A slot's load, both its halves just landed. -/
theorem step_load_slot {α : Type} {R : sProp 𝕄} {Q : α → sProp 𝕄} (d : Fin 7) {k : Vec F S1x256x256 .bf16 → Prog (TpuEff nD τ sig (Elt F) Λ₀ .tc) α}
    {hl : gM.view.LoadsAt (slotR d).toLoadRect}
    (h : stC m ρ K c l ((d, 1) :: (d, 0) :: l') f R ⊢ WP c (k (slotV m ρ c d)) Q) :
    stC m ρ K c l ((d, 1) :: (d, 0) :: l') f R ⊢ WP c (.op (.load gM (slotR d).toLoadRect hl) k) Q := by
  unfold stC at h ⊢
  rw [bigSepL_cons', bigSepL_cons'] at h ⊢
  unfold recvPost gPts at h ⊢
  have hu := pointsTo_union (ℓ := (c : Thread nD τ).loc cc0_scratch0) (q := fullShare) (f := landed m ρ c) (Ix := Unit) (Name := ℕ) (U := UU) (Lvl := ℕ)
    (gPiece_disjoint (d, 0) (d, 1) (fun e => absurd (congrArg Prod.snd e) (show ¬ ((0 : Fin 2) = 1) by decide)))
  unfold gPiece at hu
  iintro ⟨#Hc, HO, Hl, ⟨⟨Hg1, Hz1⟩, ⟨Hg0, Hz0⟩, Hl'⟩, HR⟩
  ihave Hg := hu.2 $$ [Hg0 Hg1]
  · isplitl [Hg0] <;> iassumption
  iapply (wp_load 𝒱₀ (c : Thread nD τ) none Set.univ (m := gM) (r := (slotR d).toLoadRect) (S := (dstM (d, 0)).view.set ∪ (dstM (d, 1)).view.set)
    (by
      intro i hi
      obtain ⟨x, hx, rfl⟩ := Finset.mem_map.1 hi
      exact slot_set d hx)) $$ Hg
  iintro Hg
  ihave Hg := hu.1 $$ Hg
  icases Hg with ⟨Hg0, Hg1⟩
  iapply h
  isplitr; · iexact Hc
  isplitl [HO]; · iexact HO
  isplitl [Hl]; · iexact Hl
  isplitl [Hg0 Hg1 Hz0 Hz1 Hl']
  · isplitl [Hg1 Hz1]
    · isplitl [Hg1] <;> iassumption
    isplitl [Hg0 Hz0]
    · isplitl [Hg0] <;> iassumption
    iexact Hl'
  iexact HR

/-- `step_recv` on the state between the landings. -/
theorem step_recvC {α : Type} {R : sProp 𝕄} {Q : α → sProp 𝕄} {k : PUnit → Prog (TpuEff nD τ sig (Elt F) Λ₀ .tc) α}
    (t : T) {src dst : Memref sig .tc .vmem S128x256 .bf16} {sR : DmaSem sig} (hd : dst = dstM t) (hsR : sR = recvQ t)
    {hsrc : src.view.WordExact} {hdst : dst.view.WordExact}
    (h : stC m ρ K c l (t :: l') f R ⊢ WP c (k ⟨⟩) Q) :
    stC m ρ K c (t :: l) l' f R ⊢ WP c (.op (.waitDma2 sR src dst hsrc hdst) k) Q :=
  step_recv m ρ K c t l l' hd hsR h

end Cert.Exchange
-- ==== Proof.Body.lean ====
/-
# The kernel's body

The body run at a symbolic device `c`, effect by effect in program order, from the state the launch gives it to the state
with every transfer landed, every semaphore at zero and the result's buffer at `outAt c`.
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## The result -/

/-- The accumulator after the slots of `l`, in order: the kept block's product, then each landed block's product added. -/
def accV (l : List (Fin 7)) : FVec F S256x2048 .f32 :=
  l.foldl (fun a d => k0_pay2 a (slotV m ρ c d) (wV m ρ c d)) (k0_pay1 (xOwnV m ρ c) (wOwnV m ρ c))

/-- The kernel's result on device `c`. -/
def outAt : (cc0_stg2_0 : Ref sig .tc).ty.Contents (Elt F) := k0_pay9 (accV m ρ c sigOrder)

/-! ## The states between the phases -/

theorem bigSep_sendOrder (Φ : T → sProp 𝕄) : bigSep Finset.univ Φ = bigSepL sendOrder Φ := bigSep_univ_eq_bigSepL _ (by decide) (by decide) Φ
theorem bigSep_waitOrder (Φ : T → sProp 𝕄) : bigSep Finset.univ Φ = bigSepL waitOrder Φ := bigSep_univ_eq_bigSepL _ (by decide) (by decide) Φ
theorem bigSep_sendOrder_rev (Φ : T → sProp 𝕄) : bigSep Finset.univ Φ = bigSepL sendOrder.reverse Φ := bigSep_univ_eq_bigSepL _ (by decide) (by decide) Φ
theorem bigSep_waitOrder_rev (Φ : T → sProp 𝕄) : bigSep Finset.univ Φ = bigSepL waitOrder.reverse Φ := bigSep_univ_eq_bigSepL _ (by decide) (by decide) Φ
theorem bigSep_sigOrder (Φ : Fin 7 → sProp 𝕄) : bigSep Finset.univ Φ = bigSepL sigOrder Φ := bigSep_univ_eq_bigSepL _ (by decide) (by decide) Φ

theorem drop_nil {A B R : sProp 𝕄} {I : Type} {Φ : I → sProp 𝕄} : iprop(A ∗ B ∗ bigSepL [] Φ ∗ R) ⊢ iprop(A ∗ B ∗ R) := by
  iintro ⟨HA, HB, -, HR⟩
  isplitl [HA]; · iexact HA
  isplitl [HB]; · iexact HB
  iexact HR

/-- The two tokens transfer `t` pays with. -/
def toks2 (t : T) : sProp 𝕄 := iprop(dutyTok ER (sendCell c t) 0 0 ∗ dutyTok ER (recvCell (par t.1 c) t) 0 0)

/-- What the body holds besides, from the barrier on: -/
def restB (f0 : (cc0_stg2_0 : Ref sig .tc).ty.Contents (Elt F)) : sProp 𝕄 :=
  iprop((bigSep Finset.univ fun t => recvPre c t) ∗ (bigSep Finset.univ fun t => atPos ER (sendCell c t) 0 ∅ 0) ∗ xOwn m ρ c ∗ wPts m ρ c ∗ oPts c f0)

/-- What device `c`'s body starts from. -/
def bodyPre (f0 : (cc0_stg2_0 : Ref sig .tc).ty.Contents (Elt F)) : sProp 𝕄 :=
  iprop(ctx m ρ K ∗ ow c (O₀ c) ∗ (bigSep Finset.univ fun d => sigPre c d)
    ∗ (cred (tallyAt (barCell c) () 7) ∗ atPos ER (barCell c) 0 ∅ 0)
    ∗ (bigSep Finset.univ fun t => toks2 c t) ∗ (bigSep Finset.univ fun t => xPts m ρ c t) ∗ restB m ρ c f0)

/-- What it ends at. -/
def bodyPost : sProp 𝕄 :=
  iprop(ow c 0 ∗ semVal (barCell c) 0 ∗ (bigSep Finset.univ fun t => recvPost m ρ c t) ∗ (bigSep Finset.univ fun t => sentPost m ρ c t)
    ∗ xOwn m ρ c ∗ wPts m ρ c ∗ oPts c (outAt m ρ c))

/-- Every partner's rows, slot by slot, are every transfer's landing rows. -/
theorem barPays_eq : (bigSep Finset.univ fun d => barPay (F := F) c d) = bigSep Finset.univ fun t : T => iprop(∃ f, gPts (F := F) (par t.1 c) t f) := by
  rw [bigSep_univ_prod (fun t : T => iprop(∃ f, gPts (F := F) (par t.1 c) t f))]
  exact bigSep_congr fun d _ => by rw [bigSep_fin_two]; rfl

theorem to_sends (f0 : (cc0_stg2_0 : Ref sig .tc).ty.Contents (Elt F)) (R : sProp 𝕄) :
    iprop(ctx m ρ K ∗ ow c (owedSend c sendOrder) ∗ (bigSep Finset.univ fun d => barPay c d) ∗ semVal (barCell c) 0
        ∗ (bigSep Finset.univ fun t => toks2 c t) ∗ (bigSep Finset.univ fun t => xPts m ρ c t) ∗ restB m ρ c f0 ∗ R)
      ⊢ iprop(ctx m ρ K ∗ ow c (owedSend c sendOrder) ∗ bigSepL sendOrder (sendPre m ρ c) ∗ bigSepL [] (sendCred c)
        ∗ (semVal (barCell c) 0 ∗ restB m ρ c f0 ∗ R)) := by
  have e : bigSepL sendOrder (sendPre m ρ c) = iprop((bigSep Finset.univ fun t => toks2 c t)
      ∗ (bigSep Finset.univ fun t : T => iprop(∃ f, gPts (par t.1 c) t f)) ∗ (bigSep Finset.univ fun t => xPts m ρ c t)) := by
    rw [← bigSep_sendOrder, ← bigSep_sep', ← bigSep_sep']
    refine bigSep_congr fun t _ => ?_
    unfold sendPre toks2
    exact (Idealize.SL.BI.sep_assoc'.antisymm Idealize.SL.BI.sep_assoc)
  rw [e, ← barPays_eq]
  iintro ⟨Hc, HO, Hb, Hz, Ht, Hx, Hr, HR⟩
  isplitl [Hc]; · iexact Hc
  isplitl [HO]; · iexact HO
  isplitl [Ht Hb Hx]
  · isplitl [Ht]; · iexact Ht
    isplitl [Hb]; · iexact Hb
    iexact Hx
  isplitr; · iempintro
  isplitl [Hz]; · iexact Hz
  isplitl [Hr]; · iexact Hr
  iexact HR

theorem to_recvs (f0 : (cc0_stg2_0 : Ref sig .tc).ty.Contents (Elt F)) (R : sProp 𝕄) :
    iprop(ctx m ρ K ∗ ow c (owedSend c []) ∗ bigSepL [] (sendPre m ρ c) ∗ bigSepL sendOrder.reverse (sendCred c)
        ∗ (semVal (barCell c) 0 ∗ restB m ρ c f0 ∗ R))
      ⊢ stC m ρ K c waitOrder [] f0 iprop(bigSepL waitOrder (sentPre c) ∗ semVal (barCell c) 0 ∗ R) := by
  have e : bigSepL waitOrder (sentPre (F := F) c) = iprop((bigSep Finset.univ fun t => sendCred c t) ∗ (bigSep Finset.univ fun t => atPos ER (sendCell c t) 0 ∅ 0)) := by
    rw [← bigSep_waitOrder, ← bigSep_sep']; rfl
  unfold stC restB
  rw [← bigSep_sendOrder_rev, e, ← bigSep_waitOrder]
  iintro ⟨Hc, HO, -, Hcr, Hz, ⟨Hrv, Hat, Hx, Hw, Ho⟩, HR⟩
  isplitl [Hc]; · iexact Hc
  isplitl [HO]; · iexact HO
  isplitl [Hrv]; · iexact Hrv
  isplitr; · iempintro
  isplitl [Hx]; · iexact Hx
  isplitl [Hw]; · iexact Hw
  isplitl [Ho]; · iexact Ho
  isplitl [Hcr Hat]
  · isplitl [Hcr]; · iexact Hcr
    iexact Hat
  isplitl [Hz]; · iexact Hz
  iexact HR

theorem to_sents (f : (cc0_stg2_0 : Ref sig .tc).ty.Contents (Elt F)) (R : sProp 𝕄) :
    stC m ρ K c [] waitOrder.reverse f iprop(bigSepL waitOrder (sentPre c) ∗ semVal (barCell c) 0 ∗ R)
      ⊢ iprop(ctx m ρ K ∗ ow c 0 ∗ bigSepL waitOrder (sentPre c) ∗ bigSepL [] (sentPost m ρ c)
        ∗ (semVal (barCell c) 0 ∗ (bigSep Finset.univ fun t => recvPost m ρ c t) ∗ xOwn m ρ c ∗ wPts m ρ c ∗ oPts c f ∗ R)) := by
  unfold stC
  rw [← bigSep_waitOrder_rev]
  iintro ⟨Hc, HO, -, Hrv, Hx, Hw, Ho, Hs, Hz, HR⟩
  isplitl [Hc]; · iexact Hc
  isplitl [HO]; · iexact HO
  isplitl [Hs]; · iexact Hs
  isplitr; · iempintro
  isplitl [Hz]; · iexact Hz
  isplitl [Hrv]; · iexact Hrv
  isplitl [Hx]; · iexact Hx
  isplitl [Hw]; · iexact Hw
  isplitl [Ho]; · iexact Ho
  iexact HR

theorem to_post (R : sProp 𝕄) :
    iprop(ctx m ρ K ∗ ow c 0 ∗ bigSepL [] (sentPre c) ∗ bigSepL waitOrder.reverse (sentPost m ρ c)
        ∗ (semVal (barCell c) 0 ∗ (bigSep Finset.univ fun t => recvPost m ρ c t) ∗ xOwn m ρ c ∗ wPts m ρ c ∗ oPts c (outAt m ρ c) ∗ R))
      ⊢ iprop(bodyPost m ρ c ∗ R) := by
  unfold bodyPost
  rw [← bigSep_waitOrder_rev]
  iintro ⟨-, HO, -, Hs, Hz, Hrv, Hx, Hw, Ho, HR⟩
  isplitr [HR]
  · isplitl [HO]; · iexact HO
    isplitl [Hz]; · iexact Hz
    isplitl [Hrv]; · iexact Hrv
    isplitl [Hs]; · iexact Hs
    isplitl [Hx]; · iexact Hx
    isplitl [Hw]; · iexact Hw
    iexact Ho
  iexact HR

theorem from_pre (f0 : (cc0_stg2_0 : Ref sig .tc).ty.Contents (Elt F)) (R : sProp 𝕄) :
    iprop(bodyPre m ρ K c f0 ∗ R)
      ⊢ iprop(ctx m ρ K ∗ ow c (owedSig c sigOrder) ∗ bigSepL sigOrder (sigPre c)
        ∗ ((cred (tallyAt (barCell c) () 7) ∗ atPos ER (barCell c) 0 ∅ 0)
          ∗ (bigSep Finset.univ fun t => toks2 c t) ∗ (bigSep Finset.univ fun t => xPts m ρ c t) ∗ restB m ρ c f0 ∗ R)) := by
  unfold bodyPre O₀
  rw [← bigSep_sigOrder]
  iintro ⟨⟨Hc, HO, Hs, Hb, Ht, Hx, Hr⟩, HR⟩
  isplitl [Hc]; · iexact Hc
  isplitl [HO]; · iexact HO
  isplitl [Hs]; · iexact Hs
  isplitl [Hb]; · iexact Hb
  isplitl [Ht]; · iexact Ht
  isplitl [Hx]; · iexact Hx
  isplitl [Hr]; · iexact Hr
  iexact HR

/-! ## The body -/

set_option maxHeartbeats 4000000 in
set_option maxRecDepth 65536 in
/-- The body from `bodyPre` to `bodyPost`: one step per effect, in program order. -/
theorem sound_body (f0 : (cc0_stg2_0 : Ref sig .tc).ty.Contents (Elt F)) (Kt : PUnit → sProp 𝕄) :
    iprop(bodyPre m ρ K c f0 ∗ (bodyPost m ρ c -∗ Kt ⟨⟩))
      ⊢ WP c (cc0_body xM (Memref.isWhole_whole _) wM (Memref.isWhole_whole _) oM (Memref.isWhole_whole _)
            gM (Memref.isWhole_whole _) cc0_scratch1 cc0_scratch2) Kt := by
  simp only [cc0_body_eq_skeleton, cc0_body_skel, k0_part17_eq_skeleton, k0_part17_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel,
    semSignalWord, semWaitWord, Prog.lift, Prog.bind_op, Prog.bind_ret, Prog.pure_eq_ret, wp_deviceId]
  refine (from_pre m ρ K c f0 _).trans ?_
  refine step_signal m ρ K c 0 _ _ (dev1_eq c) _ rfl ?_
  refine step_signal m ρ K c 1 _ _ (dev2_eq c) _ rfl ?_
  refine step_signal m ρ K c 2 _ _ (dev3_eq c) _ rfl ?_
  refine step_signal m ρ K c 3 _ _ (dev4_eq c) _ rfl ?_
  refine step_signal m ρ K c 4 _ _ (dev5_eq c) _ rfl ?_
  refine step_signal m ρ K c 5 _ _ (dev6_eq c) _ rfl ?_
  refine step_signal m ρ K c 6 _ _ (dev7_eq c) _ rfl ?_
  refine drop_nil.trans ?_
  refine step_barrier m ρ K c _ rfl ?_
  refine (to_sends m ρ K c f0 _).trans ?_
  refine step_send m ρ K c (6, 0) _ _ _ (dev8_eq c) rfl rfl (sendQ_eq (6, 0)) (recvQ_eq (6, 0)) ?_
  refine step_send m ρ K c (5, 0) _ _ _ (dev9_eq c) rfl rfl (sendQ_eq (5, 0)) (recvQ_eq (5, 0)) ?_
  refine step_send m ρ K c (4, 0) _ _ _ (dev10_eq c) rfl rfl (sendQ_eq (4, 0)) (recvQ_eq (4, 0)) ?_
  refine step_send m ρ K c (3, 0) _ _ _ (dev11_eq c) rfl rfl (sendQ_eq (3, 0)) (recvQ_eq (3, 0)) ?_
  refine step_send m ρ K c (2, 0) _ _ _ (dev12_eq c) rfl rfl (sendQ_eq (2, 0)) (recvQ_eq (2, 0)) ?_
  refine step_send m ρ K c (1, 0) _ _ _ (dev13_eq c) rfl rfl (sendQ_eq (1, 0)) (recvQ_eq (1, 0)) ?_
  refine step_send m ρ K c (0, 0) _ _ _ (dev14_eq c) rfl rfl (sendQ_eq (0, 0)) (recvQ_eq (0, 0)) ?_
  refine step_send m ρ K c (6, 1) _ _ _ (dev15_eq c) rfl rfl (sendQ_eq (6, 1)) (recvQ_eq (6, 1)) ?_
  refine step_send m ρ K c (5, 1) _ _ _ (dev16_eq c) rfl rfl (sendQ_eq (5, 1)) (recvQ_eq (5, 1)) ?_
  refine step_send m ρ K c (4, 1) _ _ _ (dev17_eq c) rfl rfl (sendQ_eq (4, 1)) (recvQ_eq (4, 1)) ?_
  refine step_send m ρ K c (3, 1) _ _ _ (dev18_eq c) rfl rfl (sendQ_eq (3, 1)) (recvQ_eq (3, 1)) ?_
  refine step_send m ρ K c (2, 1) _ _ _ (dev19_eq c) rfl rfl (sendQ_eq (2, 1)) (recvQ_eq (2, 1)) ?_
  refine step_send m ρ K c (1, 1) _ _ _ (dev20_eq c) rfl rfl (sendQ_eq (1, 1)) (recvQ_eq (1, 1)) ?_
  refine step_send m ρ K c (0, 1) _ _ _ (dev21_eq c) rfl rfl (sendQ_eq (0, 1)) (recvQ_eq (0, 1)) ?_
  refine (to_recvs m ρ K c f0 _).trans ?_
  refine step_load_x m ρ K c _ _ _ ?_
  refine step_load_w m ρ K c _ _ _ (r := wOwnR c) ?_
  refine step_load_o m ρ K c _ _ _ ?_
  refine step_store_o m ρ K c _ _ _ _ ?_
  refine step_recvC m ρ K c _ _ _ (0, 0) rfl (recvQ_eq (0, 0)) ?_
  refine step_recvC m ρ K c _ _ _ (0, 1) rfl (recvQ_eq (0, 1)) ?_
  refine step_load_o m ρ K c _ _ _ ?_
  refine step_load_slot m ρ K c _ _ _ 0 ?_
  refine step_load_w m ρ K c _ _ _ (r := wR c 0) ?_
  refine step_load_o m ρ K c _ _ _ ?_
  refine step_store_o m ρ K c _ _ _ _ ?_
  refine step_recvC m ρ K c _ _ _ (1, 0) rfl (recvQ_eq (1, 0)) ?_
  refine step_recvC m ρ K c _ _ _ (1, 1) rfl (recvQ_eq (1, 1)) ?_
  refine step_load_o m ρ K c _ _ _ ?_
  refine step_load_slot m ρ K c _ _ _ 1 ?_
  refine step_load_w m ρ K c _ _ _ (r := wR c 1) ?_
  refine step_load_o m ρ K c _ _ _ ?_
  refine step_store_o m ρ K c _ _ _ _ ?_
  refine step_recvC m ρ K c _ _ _ (2, 0) rfl (recvQ_eq (2, 0)) ?_
  refine step_recvC m ρ K c _ _ _ (2, 1) rfl (recvQ_eq (2, 1)) ?_
  refine step_load_o m ρ K c _ _ _ ?_
  refine step_load_slot m ρ K c _ _ _ 2 ?_
  refine step_load_w m ρ K c _ _ _ (r := wR c 2) ?_
  refine step_load_o m ρ K c _ _ _ ?_
  refine step_store_o m ρ K c _ _ _ _ ?_
  refine step_recvC m ρ K c _ _ _ (3, 0) rfl (recvQ_eq (3, 0)) ?_
  refine step_recvC m ρ K c _ _ _ (3, 1) rfl (recvQ_eq (3, 1)) ?_
  refine step_load_o m ρ K c _ _ _ ?_
  refine step_load_slot m ρ K c _ _ _ 3 ?_
  refine step_load_w m ρ K c _ _ _ (r := wR c 3) ?_
  refine step_load_o m ρ K c _ _ _ ?_
  refine step_store_o m ρ K c _ _ _ _ ?_
  refine step_recvC m ρ K c _ _ _ (4, 0) rfl (recvQ_eq (4, 0)) ?_
  refine step_recvC m ρ K c _ _ _ (4, 1) rfl (recvQ_eq (4, 1)) ?_
  refine step_load_o m ρ K c _ _ _ ?_
  refine step_load_slot m ρ K c _ _ _ 4 ?_
  refine step_load_w m ρ K c _ _ _ (r := wR c 4) ?_
  refine step_load_o m ρ K c _ _ _ ?_
  refine step_store_o m ρ K c _ _ _ _ ?_
  refine step_recvC m ρ K c _ _ _ (5, 0) rfl (recvQ_eq (5, 0)) ?_
  refine step_recvC m ρ K c _ _ _ (5, 1) rfl (recvQ_eq (5, 1)) ?_
  refine step_load_o m ρ K c _ _ _ ?_
  refine step_load_slot m ρ K c _ _ _ 5 ?_
  refine step_load_w m ρ K c _ _ _ (r := wR c 5) ?_
  refine step_load_o m ρ K c _ _ _ ?_
  refine step_store_o m ρ K c _ _ _ _ ?_
  refine step_recvC m ρ K c _ _ _ (6, 0) rfl (recvQ_eq (6, 0)) ?_
  refine step_recvC m ρ K c _ _ _ (6, 1) rfl (recvQ_eq (6, 1)) ?_
  refine step_load_o m ρ K c _ _ _ ?_
  refine step_load_slot m ρ K c _ _ _ 6 ?_
  refine step_load_w m ρ K c _ _ _ (r := wR c 6) ?_
  refine step_load_o m ρ K c _ _ _ ?_
  refine step_store_o m ρ K c _ _ _ _ ?_
  refine step_load_o m ρ K c _ _ _ ?_
  refine step_load_o m ρ K c _ _ _ ?_
  refine step_store_o m ρ K c _ _ _ _ ?_
  refine (to_sents m ρ K c _ _).trans ?_
  refine step_sent m ρ K c (0, 0) _ _ rfl (sendQ_eq (0, 0)) ?_
  refine step_sent m ρ K c (0, 1) _ _ rfl (sendQ_eq (0, 1)) ?_
  refine step_sent m ρ K c (1, 0) _ _ rfl (sendQ_eq (1, 0)) ?_
  refine step_sent m ρ K c (1, 1) _ _ rfl (sendQ_eq (1, 1)) ?_
  refine step_sent m ρ K c (2, 0) _ _ rfl (sendQ_eq (2, 0)) ?_
  refine step_sent m ρ K c (2, 1) _ _ rfl (sendQ_eq (2, 1)) ?_
  refine step_sent m ρ K c (3, 0) _ _ rfl (sendQ_eq (3, 0)) ?_
  refine step_sent m ρ K c (3, 1) _ _ rfl (sendQ_eq (3, 1)) ?_
  refine step_sent m ρ K c (4, 0) _ _ rfl (sendQ_eq (4, 0)) ?_
  refine step_sent m ρ K c (4, 1) _ _ rfl (sendQ_eq (4, 1)) ?_
  refine step_sent m ρ K c (5, 0) _ _ rfl (sendQ_eq (5, 0)) ?_
  refine step_sent m ρ K c (5, 1) _ _ rfl (sendQ_eq (5, 1)) ?_
  refine step_sent m ρ K c (6, 0) _ _ rfl (sendQ_eq (6, 0)) ?_
  refine step_sent m ρ K c (6, 1) _ _ rfl (sendQ_eq (6, 1)) ?_
  refine (to_post m ρ K c _).trans ?_
  unfold WP
  rw [wp_ret]
  iintro ⟨Hp, Hk⟩
  imodintro
  iapply Hk; iexact Hp

end Cert.Exchange
-- ==== Proof.Launch.lean ====
/-
# The exchange launched on all devices

The pipeline's proof data, the body obligation from `sound_body`, and the launch: the cells of every device are allocated
under one update, the tokens go to the devices that pay the duties, the launch credits to the cells that are paid.
`run_main` is the run of the whole program from any memory, for any float values.
-/
module

public import proofs.«01_k».proof.Proof.Body
public import proofs.«01_k».proof.Proof.Gen.KernelIdeal.Points
public import Idealize.ShloMosaic.Lib.Ring
public import Idealize.ShloMosaic.Lib.Pipeline.CollectiveSegs
public import Idealize.ShloMosaic.Lib.Pipeline.ValueKit.Geometry

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What stays with device `c` of the cells: its positions, and the tokens of the duties it pays. -/
def linear (c : Dev nD) : sProp 𝕄 :=
  iprop(atPos ER (barCell c) 0 ∅ 0 ∗ (bigSep Finset.univ fun t => atPos ER (sendCell c t) 0 ∅ 0) ∗ (bigSep Finset.univ fun t => atPos ER (recvCell c t) 0 ∅ 0)
    ∗ (bigSep Finset.univ fun d => dutyTok ER (barCell (par d c)) 0 d) ∗ bigSep Finset.univ fun t => toks2 c t)

/-- What device `c`'s body starts from: the cells' records and its own share at some names, and its credits. -/
def start (c : Dev nD) : sProp 𝕄 :=
  iprop((∃ K, ctx m ρ K ∗ linear c) ∗ cred (tallyAt (barCell c) () 7) ∗ bigSep Finset.univ fun t => cred (tallyAt (recvCell c t) () N))

def scr (c : Dev nD) (f : (cc0_scratch0 : Ref sig .tc).ty.Contents (Elt F)) : sProp 𝕄 := ((c : Thread nD τ).loc cc0_scratch0) ↦{fullShare} f

def Φ₀ (c : Dev nD) : sProp 𝕄 := iprop(start m ρ c ∗ ∃ f, scr c f)
/-- After the point: the landing buffer at what landed, every cell closed. -/
def Φ₁ (c : Dev nD) : sProp 𝕄 :=
  iprop(scr c (landed m ρ c) ∗ semVal (barCell c) 0 ∗ (bigSep Finset.univ fun t => semVal (sendCell c t) 0) ∗ bigSep Finset.univ fun t => semVal (recvCell c t) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-! ## Buffers cut into pieces and joined again -/

section Pieces
variable (c : Dev nD)

theorem x_pieces : (((c : Thread nD τ).loc cc0_stg0_0) ↦{fullShare} xstg m ρ c : sProp 𝕄)
    = iprop(xOwn m ρ c ∗ bigSep Finset.univ fun t => xPts m ρ c t) := by
  rw [Ring.pointsTo_blocks (ℓ := (c : Thread nD τ).loc cc0_stg0_0) (xPiece c) (xPiece_disjoint c) (xPiece_cover c) (xstg m ρ c), bigSep_univ_sum,
    bigSep_univ_of_subsingleton ()]
  rfl

theorem scr_pieces (f : (cc0_scratch0 : Ref sig .tc).ty.Contents (Elt F)) : (scr c f : sProp 𝕄) = bigSep Finset.univ fun t => gPts c t f :=
  Ring.pointsTo_blocks (ℓ := (c : Thread nD τ).loc cc0_scratch0) gPiece gPiece_disjoint gPiece_cover f

/-- The landing buffer, slot by slot, as the signals hand it over. -/
theorem scr_slots (f : (cc0_scratch0 : Ref sig .tc).ty.Contents (Elt F)) :
    (scr c f : sProp 𝕄) ⊢ bigSep Finset.univ fun d : Fin 7 => iprop((∃ f, gPts c (d, 0) f) ∗ (∃ f, gPts c (d, 1) f)) := by
  rw [scr_pieces, bigSep_univ_prod (fun t : T => gPts c t f)]
  refine bigSep_mono fun d _ => ?_
  rw [bigSep_fin_two]
  show iprop(gPts c (d, 0) f ∗ gPts c (d, 1) f) ⊢ iprop((∃ f, gPts c (d, 0) f) ∗ (∃ f, gPts c (d, 1) f))
  iintro ⟨H0, H1⟩
  isplitl [H0]
  · iexists f; iexact H0
  · iexists f; iexact H1

/-- The signals' tokens with the slots they hand over. -/
theorem sigPre_join : iprop((bigSep Finset.univ fun d => dutyTok ER (barCell (par d c)) 0 d) ∗ bigSep Finset.univ fun d : Fin 7 => iprop((∃ f, gPts c (d, 0) f) ∗ (∃ f, gPts c (d, 1) f)))
    ⊢ (bigSep Finset.univ fun d => sigPre c d : sProp 𝕄) :=
  Entails.of_eq (bigSep_sep' Finset.univ (fun d => (dutyTok ER (barCell (par d c)) 0 d : sProp 𝕄)) fun d => iprop((∃ f, gPts c (d, 0) f) ∗ (∃ f, gPts c (d, 1) f))).symm

/-- The receives' credits with their positions. -/
theorem recvPre_join : iprop((bigSep Finset.univ fun t => cred (tallyAt (recvCell c t) () N)) ∗ bigSep Finset.univ fun t => atPos ER (recvCell c t) 0 ∅ 0)
    ⊢ (bigSep Finset.univ fun t => recvPre c t : sProp 𝕄) :=
  Entails.of_eq (bigSep_sep' Finset.univ (fun t => (cred (tallyAt (recvCell c t) () N) : sProp 𝕄)) fun t => atPos ER (recvCell c t) 0 ∅ 0).symm

end Pieces

/-! ## The body obligation -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 3) ∗ Φ (1 : Fin 3) ∗ Φ (2 : Fin 3)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def obPre (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def obPost (c : Dev nD) : sProp 𝕄 :=
  iprop(Φ₁ m ρ c ∗ (dats m ρ 0 c).owesAt () t₀.succ ∗ stg c cc0_stg0_0 (xstg m ρ c) ∗ stg c cc0_stg1_0 (wstg m ρ c) ∗ stg c cc0_stg2_0 (outAt m ρ c))

/-- The obligation's state is the body's, at some names and some contents of the result's buffer. -/
theorem obPre_body (c : Dev nD) : obPre m ρ c ⊢ iprop(∃ K f0, bodyPre m ρ K c f0) := by
  unfold obPre Φ₀ start linear
  iintro ⟨⟨⟨⟨%K, Hc, HaB, HaS, HaV, HtB, Htk⟩, HcB, HcV⟩, ⟨%fs, Hscr⟩⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  iexists K
  iexists g2
  unfold bodyPre restB
  ihave Hs := (scr_slots c fs) $$ Hscr
  ihave Hxp := (Entails.of_eq (x_pieces m ρ c)) $$ Hx
  icases Hxp with ⟨Hxo, Hxs⟩
  isplitl [Hc]; · iexact Hc
  isplitl [HO]; · unfold ow; iexists W; iexact HO
  isplitl [HtB Hs]
  · iapply (sigPre_join (F := F) c)
    isplitl [HtB]; · iexact HtB
    iexact Hs
  isplitl [HcB HaB]
  · isplitl [HcB]; · iexact HcB
    iexact HaB
  isplitl [Htk]; · iexact Htk
  isplitl [Hxs]; · iexact Hxs
  isplitl [HcV HaV]
  · iapply (recvPre_join (F := F) c)
    isplitl [HcV]; · iexact HcV
    iexact HaV
  isplitl [HaS]; · iexact HaS
  isplitl [Hxo]; · iexact Hxo
  isplitl [Hw]; · unfold wPts; iexact Hw
  unfold oPts; iexact Hout

theorem body_obPost (c : Dev nD) : bodyPost m ρ c ⊢ obPost m ρ c := by
  unfold bodyPost obPost Φ₁ recvPost sentPost
  rw [bigSep_sep', bigSep_sep', scr_pieces]
  iintro ⟨HO, Hz, ⟨Hg, HzV⟩, ⟨Hxs, HzS⟩, Hxo, Hw, Hout⟩
  unfold ow
  icases HO with ⟨%W, HO⟩
  isplitl [Hg Hz HzV HzS]
  · isplitl [Hg]; · iexact Hg
    isplitl [Hz]; · iexact Hz
    isplitl [HzS] <;> iassumption
  isplitl [HO]
  · unfold Dat.owesAt Pipeline.owesWithin
    iexists W
    isplitr; · ipureintro; exact fun _ _ => Or.inl trivial
    iexact HO
  isplitl [Hxo Hxs]
  · iexists _; isplitr; · (ipureintro; rfl)
    iapply (Entails.of_eq (x_pieces m ρ c).symm)
    isplitl [Hxo]; · iexact Hxo
    iexact Hxs
  isplitl [Hw]
  · iexists _; isplitr; · (ipureintro; rfl)
    unfold wPts; iexact Hw
  iexists _; isplitr; · (ipureintro; rfl)
  unfold oPts; iexact Hout

set_option maxRecDepth 40000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show obPre m ρ c ⊢ wp frame (wpE (defs₀ (F := F)) 𝒱₀ c none) Set.univ
    (cc0_body xM (Memref.isWhole_whole _) wM (Memref.isWhole_whole _) oM (Memref.isWhole_whole _)
      gM (Memref.isWhole_whole _) cc0_scratch1 cc0_scratch2) (fun _ => obPost m ρ c)
  refine (obPre_body m ρ c).trans ?_
  iintro ⟨%K, %f0, H⟩
  iapply (sound_body m ρ K c f0 fun _ => obPost m ρ c)
  isplitl [H]; · iexact H
  iintro H; iapply (body_obPost m ρ c); iexact H

/-! ## The launch: cells and tokens -/

set_option maxRecDepth 8000 in
theorem ownSemFacts : Pipeline.OwnSemFacts cfg0.spec osem := by decide +kernel

theorem share_eq (c : Dev nD) (w : Fin cfg0.W) : (dats m ρ 0 c).share w = fullShare := by unfold Dat.share; split <;> rfl

def exCells : Finset (GSem nD τ sig) := Finset.univ.map ⟨kcell, kcell_injective⟩

/-- A device's own cells' duties: a slot's, a send's, a receive's. -/
abbrev DI : Type := Fin 7 ⊕ (T ⊕ T)
abbrev diCell : DI → CI := Sum.elim (fun _ => kBar) (Sum.elim kSend kRecv)
abbrev diDuty : DI → Fin 7 := Sum.elim id (fun _ => 0)
abbrev tokOf (cj : Dev nD × DI) : GSem nD τ sig × ℕ × Fin 7 := (kcell (cj.1, diCell cj.2), 0, diDuty cj.2)
theorem di_inj : ∀ j j' : DI, diCell j = diCell j' → diDuty j = diDuty j' → j = j' := by
  rintro (d | t | t) (d' | t' | t') h h'
  · exact congrArg Sum.inl h'
  all_goals cases h
  all_goals rfl
theorem tokOf_injective : Function.Injective (tokOf : Dev nD × DI → GSem nD τ sig × ℕ × Fin 7) := by
  rintro ⟨c, j⟩ ⟨c', j'⟩ h
  have h1 := kcell_injective (congrArg Prod.fst h)
  have h2 : diDuty j = diDuty j' := congrArg (fun x : GSem nD τ sig × ℕ × Fin 7 => x.2.2) h
  rw [show c = c' from congrArg Prod.fst h1, di_inj j j' (congrArg Prod.snd h1) h2]
def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun d => dutyTok ER (barCell c) 0 d) ∗ (bigSep Finset.univ fun t => dutyTok ER (sendCell c t) 0 0)
    ∗ bigSep Finset.univ fun t => dutyTok ER (recvCell c t) 0 0)

/-- What the launch element deals device `c`. -/
def G (c : Dev nD) : sProp 𝕄 :=
  iprop((bigSep Finset.univ fun k : CI => roundState ER (exRd m ρ) (kcell (c, k)) 0)
    ∗ (bigSep Finset.univ fun k : CI => iprop(atPos ER (kcell (c, k)) 0 ∅ 0 ∗ reached ER (kcell (c, k)) 0)) ∗ toks c)

/-- The cells' records without the levels. -/
def records (K : Dev nD × CI → ℕ) : sProp 𝕄 :=
  iprop((bigSep Finset.univ fun ck : Dev nD × CI => cellInv ER (exRd m ρ) (K ck) (kcell ck))
    ∗ bigSep Finset.univ fun ck : Dev nD × CI => reached ER (kcell ck) 0)

instance records_persistent (K : Dev nD × CI → ℕ) : BI.Persistent (records m ρ K) := by unfold records; infer_instance

/-- What the global step makes of it. -/
def G' (c : Dev nD) : sProp 𝕄 := iprop(∃ K, records m ρ K ∗ linear c)

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : CI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun t => semVal (sendCell c t) 0) ∗ bigSep Finset.univ fun t => semVal (recvCell c t) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- The exchange's semaphores by kind. -/
theorem bigSep_CI (Φ : CI → sProp 𝕄) : bigSep Finset.univ Φ
    = iprop(Φ kBar ∗ (bigSep Finset.univ fun t => Φ (kSend t)) ∗ bigSep Finset.univ fun t => Φ (kRecv t)) := by
  rw [bigSep_univ_sum, bigSep_univ_sum, bigSep_univ_of_subsingleton ()]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, bigSep_CI]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Tokens indexed by device and by `j` go to the devices that `e j` pairs with theirs. -/
theorem deal {J : Type} [Fintype J] (e : J → Dev nD ≃ Dev nD) (Φ : Dev nD → J → sProp 𝕄) :
    (bigSep Finset.univ fun c => bigSep Finset.univ fun j => Φ c j) = bigSep Finset.univ fun c => bigSep Finset.univ fun j => Φ (e j c) j := by
  rw [bigSep_univ_comm (fun c j => Φ c j), bigSep_univ_comm (fun c j => Φ (e j c) j)]
  exact bigSep_congr fun j _ => bigSep_univ_equiv (e j) (fun c => Φ c j)

/-- The tokens a device pays with. -/
def payToks (c : Dev nD) : sProp 𝕄 := iprop((bigSep Finset.univ fun d => dutyTok ER (barCell (par d c)) 0 d) ∗ bigSep Finset.univ fun t => toks2 c t)

theorem toks_dealt : (bigSep Finset.univ fun c : Dev nD => (toks c : sProp 𝕄)) ⊢ bigSep Finset.univ fun c : Dev nD => payToks c := by
  unfold toks payToks toks2
  simp only [bigSep_sep']
  rw [deal parEquiv (fun c d => (dutyTok ER (barCell c) 0 d : sProp 𝕄)), deal (fun t : T => parEquiv t.1) (fun c t => (dutyTok ER (recvCell c t) 0 0 : sProp 𝕄))]
  exact .rfl

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CI => iprop(∃ κ : ℕ, cellInv ER (exRd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (exRd m ρ) κ (kcell ck) : sProp 𝕄))) $$ HI
  icases HK with ⟨%K, #HI⟩
  ihave Htk := (toks_dealt (F := F)) $$ Htok
  iapply (bigSep_with_persistent (R := records m ρ K) (Φ := fun c => linear c) fun c _ => by
    unfold G'; iintro ⟨H1, H2⟩; iexists K; isplitl [H1] <;> iassumption)
  isplitr
  · unfold records; isplitl; · iexact HI
    iexact HR
  · iapply ((Entails.of_eq (bigSep_sep' Finset.univ (fun c : Dev nD => bigSep Finset.univ fun k : CI => (atPos ER (kcell (c, k)) 0 ∅ 0 : sProp 𝕄)) payToks).symm).trans
      (bigSep_mono fun c _ => show _ ⊢ linear c from by
        unfold linear payToks; rw [bigSep_CI]
        iintro ⟨⟨H1, H2, H3⟩, H4, H5⟩
        isplitl [H1]; · iexact H1
        isplitl [H2]; · iexact H2
        isplitl [H3]; · iexact H3
        isplitl [H4]; · iexact H4
        iexact H5))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem owedSend_bar (d c : Dev nD) (l : List T) : owedSend d l (barCell c) () = 0 := by
  refine Nat.eq_zero_of_not_pos fun h => ?_
  obtain ⟨t, ht⟩ := owedSend_pos h
  have := congrArg (fun g : GSem nD τ sig => dec g.2) ht
  rw [show dec (barCell c).2 = some kBar from dec_bar, show dec (recvCell (par t.1 d) t).2 = some (kRecv t) from dec_recv t] at this
  cases this

/-- What device `d` owes device `c`'s barrier cell: a unit per slot of `l` that pairs them. -/
theorem owedSig_bar (d c : Dev nD) (l : List (Fin 7)) : owedSig d l (barCell c) () = (l.map fun s => if c = par s d then 1 else 0).sum := by
  induction l with
  | nil => exact owedSend_bar d c _
  | cons s l ih =>
    unfold owedSig
    rw [Pi.add_apply, Finsupp.add_apply, ih, List.map_cons, List.sum_cons, Nat.add_comm, tallyAt_apply]
    congr 1
    by_cases h : c = par s d
    · subst h; rw [if_pos ⟨rfl, rfl⟩, if_pos rfl]
    · rw [if_neg (fun h' => h (congrArg (fun g : GSem nD τ sig => g.1.1) h'.1)), if_neg h]

/-- What device `d` owes device `c`'s receive cell of transfer `t`: its credit if a transfer of `l` is that. -/
theorem owedSend_recv (d c : Dev nD) (t : T) (l : List T) :
    owedSend d l (recvCell c t) () = (l.map fun s : T => if c = par s.1 d ∧ t = s then 1 else 0).sum * N := by
  induction l with
  | nil => exact (Nat.zero_mul _).symm
  | cons s l ih =>
    unfold owedSend
    rw [Pi.add_apply, Finsupp.add_apply, ih, List.map_cons, List.sum_cons, Nat.add_mul, Nat.add_comm, tallyAt_apply]
    congr 1
    by_cases h : c = par s.1 d ∧ t = s
    · obtain ⟨h1, rfl⟩ := h; subst h1; rw [if_pos ⟨rfl, rfl⟩, if_pos ⟨rfl, rfl⟩, Nat.one_mul]
    · rw [if_neg h, Nat.zero_mul]
      refine if_neg fun h' => h ?_
      have e := kcell_eq_iff (a := c) (b := par s.1 d) (k := kRecv t) (k' := kRecv s) |>.1 h'.1
      have e2 := e.2
      injection e2 with e2; injection e2 with e2
      exact ⟨e.1, e2⟩

theorem owedSig_recv (d c : Dev nD) (t : T) (l : List (Fin 7)) :
    owedSig d l (recvCell c t) () = owedSend d sendOrder (recvCell c t) () := by
  induction l with
  | nil => rfl
  | cons s l ih =>
    unfold owedSig
    rw [Pi.add_apply, Finsupp.add_apply, ih, tallyAt_apply]
    refine (congrArg (_ + ·) (if_neg fun h' => ?_)).trans (Nat.add_zero _)
    have e := (kcell_eq_iff (a := c) (b := par s d) (k := kRecv t) (k' := kBar)).1 h'.1
    cases e.2

theorem count_bar : ∀ c : Dev nD, (∑ d : Dev nD, (sigOrder.map fun s => if c = par s d then 1 else 0).sum) = 7 := by decide +kernel
theorem count_recv : ∀ (c : Dev nD) (t : T), (∑ d : Dev nD, (sendOrder.map fun s : T => if c = par s.1 d ∧ t = s then 1 else 0).sum) = 1 := by decide +kernel

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact (Finset.sum_congr rfl fun d _ => owedSig_bar d c sigOrder).trans (count_bar c)

theorem launch_recv (c : Dev nD) (t : T) :
    tallyOn (recvCell c t) (launchCredit (Pipeline.owing O₀) 0 (recvCell c t)) = (tallyAt (recvCell c t) () N : CellTallies nD τ sig Unit) := by
  unfold tallyAt; refine congrArg _ (Finsupp.ext fun u => ?_); cases u
  rw [Pipeline.launchCredit_owing, Finsupp.single_eq_same]
  refine (Finset.sum_congr rfl fun d _ => (owedSig_recv d c t sigOrder).trans (owedSend_recv d c t sendOrder)).trans ?_
  rw [← Finset.sum_mul, count_recv, Nat.one_mul]

/-- The cells a device is paid at by others: its barrier cell, its receive cells. -/
abbrev paidSem : Unit ⊕ T → SemLoc sig := Sum.elim (fun _ => .reg barS) (fun t => .dma (recvQ t))
theorem paidSem_injective : Function.Injective paidSem := fun a b h => by
  have := @csem_injective (Sum.map id Sum.inr a) (Sum.map id Sum.inr b) (by
    rcases a with a | a <;> rcases b with b | b <;> exact h)
  rcases a with a | a <;> rcases b with b | b
  · rfl
  · cases this
  · cases this
  · injection this with this; injection this with this; rw [this]

theorem creds (c : Dev nD) :
    (Pipeline.launchCred O₀ c : sProp 𝕄) ⊢ iprop(cred (tallyAt (barCell c) () 7) ∗ bigSep Finset.univ fun t => cred (tallyAt (recvCell c t) () N)) := by
  unfold Pipeline.launchCred
  have hsub : (bigSep Finset.univ fun sm : SemLoc sig => cred (tallyOn ((c : Thread nD τ), sm) (launchCredit (Pipeline.owing O₀) 0 ((c : Thread nD τ), sm))) : sProp 𝕄)
      ⊢ bigSep (Finset.univ.map ⟨paidSem, paidSem_injective⟩) fun sm => cred (tallyOn ((c : Thread nD τ), sm) (launchCredit (Pipeline.owing O₀) 0 ((c : Thread nD τ), sm))) :=
    bigSep_subset (Finset.subset_univ _)
  refine hsub.trans (Entails.of_eq ?_)
  rw [bigSep_map, bigSep_univ_sum, bigSep_univ_of_subsingleton ()]
  refine congrArg₂ _ ?_ (bigSep_congr fun t _ => ?_)
  · exact congrArg cred (launch_bar c)
  · exact congrArg cred (launch_recv c t)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G' records ctx
  icases HG with ⟨%K, ⟨HI, HR⟩, Hlin⟩
  isplitl
  · isplitl [HI HR Hlin Hlev]
    · iexists K
      isplitl [HI HR Hlev]
      · isplitl [HI]; · iexact HI
        isplitl [HR]; · iexact HR
        iexact Hlev
      iexact Hlin
    isplitl [H1]; · iexact H1
    iexact HN
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ scr
  iintro ⟨Hr, HzB, HzS, HzV⟩
  isplitl [HzB]; · iexact HzB
  isplitl [HzS HzV]
  · isplitl [HzS] <;> iassumption
  iexists (landed m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the compiled mesh of eight devices, for any float values, from any memory with zero counters: every weakly fair
    execution of @main terminates, and every final state has each device's arrays at the computed contents and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two argument arrays after the run hold what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _
/-- The result array after the run holds what the body computed. -/
theorem finalA_o (c : Dev nD) : finalA m ρ c (2 : Fin 3) = outAt m ρ c := by
  refine (dats (F := F) m ρ 0 c).arrAt_eq_of_after_last (2 : Fin 3) Gen.t0_0 (by decide +kernel) _ fun j => ?_
  blk_simp
  rfl

end Cert.Exchange
-- ==== Proof.Value.lean ====
/-
# The result's entries over the extended reals

What `outAt` holds at each of its entries when the devices' blocks are the column blocks of one array and their weights one
array: `silu` of the whole contraction. A device adds the products of its own block and of the seven landed ones in the
order of the slots; the slots' partners and the device itself are all the devices, so the sum is the whole row's, cut into
blocks of 256.
-/
module

public import proofs.«01_k».proof.Proof.Body
public import Idealize.ShloMosaic.Lib.MatmulPlain
public import Idealize.ShloMosaic.Lib.IdealHost
public import Idealize.ShloMosaic.Lib.ValueIdx
public import Idealize.ShloMosaic.Lib.ValueLayout
public import Idealize.ShloMosaic.Lib.Layout
public import Idealize.ShloMosaic.Lib.Pipeline.Value
public import Idealize.ShloMosaic.Lib.Pipeline.ValueKit.Geometry

@[expose] public section

noncomputable section

namespace Cert.Exchange

open Cert.KernelIdeal Cert.KernelIdeal.Gen
open Idealize.ShloMosaic Idealize.ShloMosaic.TcCoe Idealize.ShloMosaic.ValueIdx
open scoped BigOperators

/-- Row or column `a` of block `s`, in the whole array. -/
def gIx (s : Dev nD) (a : Fin 256) : Fin 2048 := ⟨256 * s.val + a.val, by have := s.isLt; have := a.isLt; have : nD = 8 := rfl; omega⟩

/-! ## The loads -/

section Loads
variable {F : FTy → Type} [FloatOps F]
variable (m : (ℓ : Loc nD τ sig) → Buf (Elt F) ℓ) (ρ : Dev nD → PrngReg) (c : Dev nD)

theorem xstg_eq : xstg m ρ c = m ((c : Thread nD τ).loc main_arg0) := by
  funext i
  refine congrArg (m ((c : Thread nD τ).loc main_arg0)) (funext fun k => Fin.ext ?_)
  fin_cases k
  · show 0 * 2048 + 1 * (i 0).val = (i 0).val; omega
  · show 0 * 256 + 1 * (i 1).val = (i 1).val; omega

theorem wstg_eq : wstg m ρ c = m ((c : Thread nD τ).loc main_arg1) := by
  funext i
  refine congrArg (m ((c : Thread nD τ).loc main_arg1)) (funext fun k => Fin.ext ?_)
  fin_cases k
  · show 0 * 2048 + 1 * (i 0).val = (i 0).val; omega
  · show 0 * 2048 + 1 * (i 1).val = (i 1).val; omega

/-- An entry of a load of 256 rows of the weights from row `256 * s`. -/
theorem w_read (s : Dev nD) (off : Fin 2 → ℕ) (h : off = ![256 * s.val, 0]) (inb : ∀ a, off a + S256x2048.size a ≤ S2048x2048.size a)
    (f : (cc0_stg1_0 : Ref sig .tc).ty.Contents (Elt F)) (a : Fin 256) (n : Fin 2048) :
    wM.view.readAt (Elt F) (Rect.unit (s := S2048x2048) off S256x2048.size inb).toLoadRect f (ix2 a n) = f (ix2 (gIx s a) n) := by
  subst h
  refine congrArg f (funext fun k => Fin.ext ?_)
  fin_cases k
  · show 256 * s.val + 1 * a.val = 256 * s.val + a.val
    rw [Nat.one_mul]
  · show 0 + 1 * n.val = n.val
    omega

theorem wOwnV_ix2 (a : Fin 256) (n : Fin 2048) : wOwnV m ρ c (ix2 a n) = m ((c : Thread nD τ).loc main_arg1) (ix2 (gIx c a) n) :=
  (w_read c _ (k0_off3_eq c) _ _ a n).trans (congrFun (wstg_eq m ρ c) _)

theorem wV_ix2 (d : Fin 7) (a : Fin 256) (n : Fin 2048) : wV m ρ c d (ix2 a n) = m ((c : Thread nD τ).loc main_arg1) (ix2 (gIx (par d c) a) n) :=
  (w_read (par d c) _ (off4_eq c d) _ _ a n).trans (congrFun (wstg_eq m ρ c) _)

theorem xOwnV_ix2 (a b : Fin 256) : xOwnV m ρ c (ix2 a b) = m ((c : Thread nD τ).loc main_arg0) (ix2 (gIx c a) b) := by
  rw [← xstg_eq m ρ c]
  unfold xOwnV
  refine congrArg (xstg m ρ c) (funext fun k => Fin.ext ?_)
  fin_cases k
  · show k0_off2 c 0 + 1 * a.val = 256 * c.val + a.val
    rw [k0_off2_eq, Nat.one_mul]; rfl
  · show k0_off2 c 1 + 1 * b.val = b.val
    rw [k0_off2_eq, Nat.one_mul]; exact Nat.zero_add _

theorem slotV_ix3 (d : Fin 7) (a b : Fin 256) :
    slotV m ρ c d (ix3 (0 : Fin 1) a b) = m ((par d c : Thread nD τ).loc main_arg0) (ix2 (gIx c a) b) := by
  rw [← xstg_eq m ρ (par d c)]
  refine Eq.trans ?_ (landed_ix3 m ρ c d a b)
  unfold slotV
  refine congrArg (landed m ρ c) (funext fun k => Fin.ext ?_)
  fin_cases k
  · show d.val + 1 * 0 = d.val; omega
  · show 0 + 1 * a.val = a.val; omega
  · show 0 + 1 * b.val = b.val; omega

end Loads

/-! ## The products -/

/-- A kept block's product with its rows of the weights, at an entry. -/
theorem pay1_ix2 (x : Vec Ideal S256x256 .bf16) (w : Vec Ideal S256x2048 .bf16) (r : Fin 256) (n : Fin 2048) :
    k0_pay1 (F := Ideal) x w (ix2 r n) = ∑ k : Fin 256, (x (ix2 r k) * w (ix2 k n) : EReal) := by
  unfold k0_pay1
  rw [shapeCast_self, shapeCast_self]
  refine (Ideal.matmul_plain_apply (M := 256) (K := 256) (N := 2048) none _ w _ r n).trans ?_
  rw [show (constant (F := Ideal) S256x2048 .f32 0x00000000#32) (ix2 r n) = (0 : EReal) from Ideal.ofBits_zero_f32, zero_add]
  rfl

/-- A landed block's product, added. -/
theorem pay2_ix2 (acc : Vec Ideal S256x2048 .f32) (x : Vec Ideal S1x256x256 .bf16) (w : Vec Ideal S256x2048 .bf16) (r : Fin 256) (n : Fin 2048) :
    k0_pay2 (F := Ideal) acc x w (ix2 r n) = acc (ix2 r n) + ∑ k : Fin 256, (x (ix3 (0 : Fin 1) r k) * w (ix2 k n) : EReal) := by
  unfold k0_pay2
  rw [shapeCast_self, shapeCast_self]
  refine congrArg (acc (ix2 r n) + ·) ?_
  refine (Ideal.matmul_plain_apply (M := 256) (K := 256) (N := 2048) none _ w _ r n).trans ?_
  rw [show (constant (F := Ideal) S256x2048 .f32 0x00000000#32) (ix2 r n) = (0 : EReal) from Ideal.ofBits_zero_f32, zero_add]
  refine Finset.sum_congr rfl fun k _ => congrArg (· * w (ix2 k n)) ?_
  exact shapeCast_1ab_ab_apply x _ r k

/-! ## The whole contraction -/

/-- A sum over the device itself and the seven partners, in the slots' order, is the sum over all devices. -/
theorem sum_devices (c : Dev nD) (f : Dev nD → EReal) :
    sigOrder.foldl (fun a d => a + f (par d c)) (f c) = ∑ s : Dev nD, f s := by
  have h : (Finset.univ : Finset (Dev nD)) = insert c (Finset.univ.image fun d => par d c) := by
    ext s
    simp only [Finset.mem_univ, Finset.mem_insert, Finset.mem_image, true_and, true_iff]
    exact (par_surj c s).imp_right fun ⟨d, hd⟩ => ⟨d, hd.symm⟩
  rw [h, Finset.sum_insert (by simp only [Finset.mem_image, Finset.mem_univ, true_and, not_exists]; exact fun d => par_ne d c),
    Finset.sum_image (fun d _ d' _ e => par_inj c d d' e), Fin.sum_univ_seven]
  simp only [List.foldl, add_assoc]

/-- A sum over 2048 columns, block by block. -/
theorem sum_blocks {α : Type} [AddCommMonoid α] (f : Fin 2048 → α) : ∑ s : Dev nD, ∑ k : Fin 256, f (gIx s k) = ∑ k : Fin 2048, f k := by
  rw [← Fintype.sum_prod_type' (f := fun (s : Dev nD) (k : Fin 256) => f (gIx s k))]
  refine Fintype.sum_equiv (finProdFinEquiv (m := 8) (n := 256)) _ _ fun p => congrArg f (Fin.ext ?_)
  show 256 * p.1.val + p.2.val = p.2.val + 256 * p.1.val
  omega

/-- The product of two whole arrays at an entry. -/
def prod (X W : S2048x2048.Idx → EReal) (r n : Fin 2048) : EReal := ∑ k : Fin 2048, X (ix2 r k) * W (ix2 k n)

section Whole
variable (m : (ℓ : Loc nD τ sig) → Buf (Elt Ideal) ℓ) (ρ : Dev nD → PrngReg) (c : Dev nD)
variable (X W : S2048x2048.Idx → EReal)
variable (hx : ∀ (s : Dev nD) (r : Fin 2048) (k : Fin 256), m ((s : Thread nD τ).loc main_arg0) (ix2 r k) = X (ix2 r (gIx s k)))
variable (hw : ∀ s : Dev nD, m ((s : Thread nD τ).loc main_arg1) = W)

include hx hw in
/-- The accumulator after all slots is the whole product, at the device's rows. -/
theorem accV_ix2 (r : Fin 256) (n : Fin 2048) : accV m ρ c sigOrder (ix2 r n) = prod X W (gIx c r) n := by
  have hstep : ∀ (l : List (Fin 7)) (a : FVec Ideal S256x2048 .f32),
      (l.foldl (fun a d => k0_pay2 (F := Ideal) a (slotV m ρ c d) (wV m ρ c d)) a) (ix2 r n)
        = l.foldl (fun (e : EReal) d => e + ∑ k : Fin 256, X (ix2 (gIx c r) (gIx (par d c) k)) * W (ix2 (gIx (par d c) k) n)) (a (ix2 r n)) := by
    intro l
    induction l with
    | nil => intro a; rfl
    | cons d l ih =>
      intro a
      rw [List.foldl_cons, List.foldl_cons, ih]
      refine congrArg (fun e => List.foldl _ e l) ?_
      rw [pay2_ix2]
      refine congrArg (a (ix2 r n) + ·) (Finset.sum_congr rfl fun k _ => ?_)
      rw [slotV_ix3, wV_ix2, hx, hw]
  unfold accV
  rw [hstep, pay1_ix2]
  rw [show (∑ k : Fin 256, (xOwnV m ρ c (ix2 r k) * wOwnV m ρ c (ix2 k n) : EReal))
      = ∑ k : Fin 256, X (ix2 (gIx c r) (gIx c k)) * W (ix2 (gIx c k) n) from
    Finset.sum_congr rfl fun k _ => by rw [xOwnV_ix2, wOwnV_ix2, hx, hw]]
  rw [sum_devices c fun s => ∑ k : Fin 256, X (ix2 (gIx c r) (gIx s k)) * W (ix2 (gIx s k) n)]
  exact sum_blocks fun k => X (ix2 (gIx c r) k) * W (ix2 k n)

end Whole

/-! ## The activation -/

/-- `y / (1 + exp (-y))`. -/
def silu (y : EReal) : EReal := Ideal.div y (1 + Ideal.exp (-y))

theorem exp_nonneg (y : EReal) : 0 ≤ Ideal.exp y := by
  induction y with
  | bot => exact le_refl _
  | top => exact le_top
  | coe r => exact EReal.coe_nonneg.2 (Real.exp_pos r).le

/-- The kernel multiplies by the logistic; the denominator is never zero, so that is the quotient, at the infinities too. -/
theorem mul_logistic (y : EReal) : y * Ideal.logistic y = silu y :=
  Idealize.ShloMosaic.Ideal.mul_one_div (zero_lt_one.trans_le (le_add_of_nonneg_right (exp_nonneg _))).ne'

theorem pay9_apply (v : Vec Ideal S256x2048 .f32) (i : S256x2048.Idx) : k0_pay9 (F := Ideal) v i = silu (v i) := by
  unfold k0_pay9
  rw [shapeCast_self]
  exact mul_logistic (v i)

/-- The whole result: `silu` of the product, entry by entry. -/
def result (X W : S2048x2048.Idx → EReal) : S2048x2048.Idx → EReal := fun i => silu (prod X W (i 0) (i 1))

/-- Where a column block's entry lies in the whole array. -/
theorem block_col_idx (h : Layout.Tiles S2048x256 S2048x2048 1 8) (s : Dev nD) (r : Fin 2048) (k : Fin 256) :
    h.idx s (ix2 r k) = ix2 r (gIx s k) := by
  funext b
  refine Fin.ext ?_
  fin_cases b
  · rfl
  · show s.val * 256 + k.val = 256 * s.val + k.val
    omega

/-- Each device's result is its block of rows of the whole result. -/
theorem outAt_block (m : (ℓ : Loc nD τ sig) → Buf (Elt Ideal) ℓ) (ρ : Dev nD → PrngReg) (c : Dev nD) (X W : S2048x2048.Idx → EReal)
    (hx : ∀ s : Dev nD, m ((s : Thread nD τ).loc main_arg0) = Layout.block S2048x256 S2048x2048 1 8 s X)
    (hw : ∀ s : Dev nD, m ((s : Thread nD τ).loc main_arg1) = W) :
    outAt m ρ c = Layout.block S256x2048 S2048x2048 0 8 c (result X W) := by
  funext i
  obtain ⟨r, n, rfl⟩ : ∃ (r : Fin 256) (n : Fin 2048), i = ix2 r n := ⟨i 0, i 1, eq_ix2 i⟩
  unfold outAt
  rw [pay9_apply, accV_ix2 m ρ c X W (fun s r k => ?_) hw]
  · rw [Layout.block_apply]
    refine congrArg silu (congrArg₂ (prod X W) (Fin.ext ?_) (Fin.ext ?_))
    · show 256 * c.val + r.val = c.val * 256 + r.val
      omega
    · rfl
  · rw [hx, Layout.block_apply, block_col_idx]

end Cert.Exchange

end
-- ==== Proof.Bound.lean ====
/-
# Where the reference's clip is the identity

The sums of squares that the precondition bounds make every entry a real number, and by the Cauchy-Schwarz inequality every
entry of the product at most 60 in absolute value: a row of the whole input has eight blocks of 256, each with a sum of
squares of at most 375, a column of the weights has a sum of squares of at most 1.1875, and 8 * 375 * 1.1875 < 60 ^ 2.
-/
module

public import proofs.«01_k».proof.Proof.Value
public import Mathlib.Algebra.Order.BigOperators.Ring.Finset

@[expose] public section

noncomputable section

namespace Cert.Exchange

open Cert.KernelIdeal
open Idealize.ShloMosaic Idealize.ShloMosaic.ValueIdx
open scoped BigOperators

/-- A sum of real numbers is the same sum among the extended reals. -/
theorem coe_sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sq_nonneg_ereal (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- Numbers whose sum of squares is bounded by a real number are real. -/
theorem real_of_sum_sq {ι : Type} [Fintype ι] (f : ι → EReal) (b : ℝ) (h : ∑ i, f i * f i ≤ (b : EReal)) :
    ∃ g : ι → ℝ, (∀ i, f i = (g i : EReal)) ∧ ∑ i, g i * g i ≤ b := by
  have hi : ∀ i, f i * f i ≤ (b : EReal) := fun i =>
    (Finset.single_le_sum (f := fun i => f i * f i) (fun j _ => sq_nonneg_ereal (f j)) (Finset.mem_univ i)).trans h
  have hr : ∀ i, f i = ((f i).toReal : EReal) := fun i => by
    refine (EReal.coe_toReal ?_ ?_).symm
    · intro e
      have := hi i
      rw [e, EReal.top_mul_top] at this
      exact absurd this (not_le.2 (EReal.coe_lt_top b))
    · intro e
      have := hi i
      rw [e, EReal.bot_mul_bot] at this
      exact absurd this (not_le.2 (EReal.coe_lt_top b))
  refine ⟨fun i => (f i).toReal, hr, EReal.coe_le_coe_iff.1 ?_⟩
  rw [coe_sum_real]
  refine le_trans (le_of_eq (Finset.sum_congr rfl fun i _ => ?_)) h
  rw [EReal.coe_mul, ← hr i]

/-- The bound on the product's entries. -/
theorem prod_bound (X W : S2048x2048.Idx → EReal) (r n : Fin 2048)
    (hx : ∀ s : Dev nD, ∑ k : Fin 256, X (ix2 r (gIx s k)) * X (ix2 r (gIx s k)) ≤ ((375 : ℝ) : EReal))
    (hw : ∑ k : Fin 2048, W (ix2 k n) * W (ix2 k n) ≤ ((1.1875 : ℝ) : EReal)) :
    ∃ y : ℝ, prod X W r n = (y : EReal) ∧ |y| ≤ 60 := by
  choose a ha hsa using fun s => real_of_sum_sq (fun k => X (ix2 r (gIx s k))) 375 (hx s)
  obtain ⟨b, hb, hsb⟩ := real_of_sum_sq (fun k => W (ix2 k n)) 1.1875 hw
  have hcs := Finset.sum_mul_sq_le_sq_mul_sq Finset.univ (fun p : Dev nD × Fin 256 => a p.1 p.2) (fun p => b (gIx p.1 p.2))
  have hA : ∑ p : Dev nD × Fin 256, a p.1 p.2 ^ 2 ≤ 3000 := by
    rw [Fintype.sum_prod_type' (f := fun (s : Dev nD) (k : Fin 256) => a s k ^ 2)]
    refine (Finset.sum_le_sum fun s _ => (le_of_eq (Finset.sum_congr rfl fun k _ => sq (a s k))).trans (hsa s)).trans ?_
    rw [Finset.sum_const, Finset.card_univ, show Fintype.card (Dev nD) = 8 from Fintype.card_fin 8]
    norm_num
  have hB : ∑ p : Dev nD × Fin 256, b (gIx p.1 p.2) ^ 2 ≤ 1.1875 := by
    rw [Fintype.sum_prod_type' (f := fun (s : Dev nD) (k : Fin 256) => b (gIx s k) ^ 2), sum_blocks fun k => b k ^ 2]
    exact (le_of_eq (Finset.sum_congr rfl fun k _ => sq (b k))).trans hsb
  refine ⟨∑ p : Dev nD × Fin 256, a p.1 p.2 * b (gIx p.1 p.2), ?_, ?_⟩
  · rw [coe_sum_real, Fintype.sum_prod_type' (f := fun (s : Dev nD) (k : Fin 256) => ((a s k * b (gIx s k) : ℝ) : EReal))]
    unfold prod
    rw [← sum_blocks]
    refine Finset.sum_congr rfl fun s _ => Finset.sum_congr rfl fun k _ => ?_
    rw [EReal.coe_mul, ← ha s k, ← hb (gIx s k)]
  · refine abs_le_of_sq_le_sq (hcs.trans ?_) (by norm_num)
    calc _ ≤ (3000 : ℝ) * 1.1875 := mul_le_mul hA hB (Finset.sum_nonneg fun p _ => sq_nonneg _) (by norm_num)
      _ ≤ 60 ^ 2 := by norm_num

/-- Clipping such an entry changes nothing. -/
theorem clip_of_bound (y : ℝ) (h : |y| ≤ 60) : min ((60 : ℝ) : EReal) (max ((-60 : ℝ) : EReal) (y : EReal)) = (y : EReal) := by
  obtain ⟨h1, h2⟩ := abs_le.1 h
  rw [max_eq_right (EReal.coe_le_coe_iff.2 h1), min_eq_right (EReal.coe_le_coe_iff.2 h2)]

end Cert.Exchange

end
-- ==== Proof.References.lean ====
/-
# The references' results, and the precondition read

The reference without the clip holds `silu` of the whole product at every entry of its result; the reference itself holds the
same wherever the product's entries are within the clip, which the precondition gives.
-/
module

public import proofs.«01_k».proof.Defs
public import proofs.«01_k».proof.Proof.Bound
public import proofs.«01_k».proof.Proof.Gen.ReferenceIdeal
public import proofs.«01_k».proof.Proof.Gen.ReferenceIdeal.Run
public import proofs.«01_k».proof.Proof.Gen.SiluReferenceIdeal
public import proofs.«01_k».proof.Proof.Gen.SiluReferenceIdeal.Run
public import proofs.«01_k».proof.Proof.Gen.Pre_bounded_KernelIdeal
public import proofs.«01_k».proof.Proof.Gen.Pre_bounded_ReferenceIdeal
public import Idealize.ShloMosaic.Lib.StackMember
public import Idealize.ShloMosaic.Lib.Pointwise.Reduce

@[expose] public section

noncomputable section

namespace Cert.Exchange

open Idealize.ShloMosaic hiding ix0 ix1 ix2 eq_ix2
open Idealize.ShloMosaic.TcCoe Idealize.ShloMosaic.ValueIdx Idealize.SL.Sem
open scoped BigOperators

/-- Two whole arrays. -/
abbrev SW : Shape := ⟨2, ![2048, 2048]⟩

/-! ## The constants -/

theorem bits_60 : Ideal.ofBits .f32 0x42700000#32 = ((60 : ℝ) : EReal) := by
  simp [Ideal.ofBits, Ideal.ieee, -EReal.coe_mul]; norm_num
theorem bits_neg_60 : Ideal.ofBits .f32 0xC2700000#32 = ((-60 : ℝ) : EReal) := by
  simp [Ideal.ofBits, Ideal.ieee, -EReal.coe_mul]; norm_num
theorem bits_375 : Ideal.ofBits .f32 0x43BB8000#32 = ((375 : ℝ) : EReal) := by
  simp [Ideal.ofBits, Ideal.ieee, -EReal.coe_mul]; norm_num
theorem bits_bound_w : Ideal.ofBits .f32 0x3F980000#32 = ((1.1875 : ℝ) : EReal) := by
  simp [Ideal.ofBits, Ideal.ieee, -EReal.coe_mul]; norm_num

/-! ## The precondition -/

/-- What the comparison's set bit says. -/
theorem le_of_cmp {x y : EReal} (h : Ideal.cmp .ole x y = 1#1) : x ≤ y := by
  by_contra hn
  rw [show Ideal.cmp .ole x y = BitVec.ofBool (decide (x ≤ y)) from rfl, decide_eq_false hn] at h
  exact absurd h (by decide)

section Pre
open Cert.Pre_bounded_KernelIdeal

/-- The first bound at a row of a device's block. -/
theorem pre_x (x : FVec Ideal S2048x256 .bf16) (w : FVec Ideal S2048x2048 .bf16) (h : (fn (F := Ideal) x w).1 = fun _ => 1#1) (r : Fin 2048) :
    ∑ k : Fin 256, (x (ix2 r k) * x (ix2 r k) : EReal) ≤ ((375 : ℝ) : EReal) := by
  have h1 := congrFun h (ix1 r)
  have h2 : Ideal.cmp .ole (Ideal.hostReduceAdd Facts.reducesTo_S2048x256_S2048_d1 (fun i => (x i * x i : EReal)) (Ideal.ofBits .f32 0x00000000#32) (ix1 r))
      (Ideal.ofBits .f32 0x43BB8000#32) = 1#1 := h1
  rw [Ideal.hostReduceAdd_r2_a1, Ideal.ofBits_zero_f32, zero_add, bits_375] at h2
  exact le_of_cmp h2

/-- The second bound at a column of the weights. -/
theorem pre_w (x : FVec Ideal S2048x256 .bf16) (w : FVec Ideal S2048x2048 .bf16) (h : (fn (F := Ideal) x w).2 = fun _ => 1#1) (n : Fin 2048) :
    ∑ k : Fin 2048, (w (ix2 k n) * w (ix2 k n) : EReal) ≤ ((1.1875 : ℝ) : EReal) := by
  have h1 := congrFun h (ix1 n)
  have h2 : Ideal.cmp .ole (Ideal.hostReduceAdd Facts.reducesTo_S2048x2048_S2048_d0 (fun i => (w i * w i : EReal)) (Ideal.ofBits .f32 0x00000000#32) (ix1 n))
      (Ideal.ofBits .f32 0x3F980000#32) = 1#1 := h1
  rw [Ideal.hostReduceAdd_r2_a0, Ideal.ofBits_zero_f32, zero_add, bits_bound_w] at h2
  exact le_of_cmp h2

end Pre

/-- The precondition's bounds on every device's block and weights bound the whole product. -/
theorem bound_of_pre (X W : SW.Idx → EReal) (x : Dev Cert.KernelIdeal.nD → FVec Ideal ⟨2, ![2048, 256]⟩ .bf16) (w : Dev Cert.KernelIdeal.nD → FVec Ideal SW .bf16)
    (hx : ∀ s, x s = Layout.block ⟨2, ![2048, 256]⟩ ⟨2, ![2048, 2048]⟩ 1 8 s X) (hw : ∀ s, w s = W)
    (h : ∀ s, (Cert.Pre_bounded_KernelIdeal.fn (F := Ideal) (x s) (w s)).1 = (fun _ => 1#1) ∧ (Cert.Pre_bounded_KernelIdeal.fn (F := Ideal) (x s) (w s)).2 = fun _ => 1#1)
    (a n : Fin 2048) : ∃ y : ℝ, prod X W a n = (y : EReal) ∧ |y| ≤ 60 := by
  refine prod_bound X W a n (fun s => ?_) ?_
  · refine le_trans (le_of_eq (Finset.sum_congr rfl fun k _ => ?_)) (pre_x (x s) (w s) (h s).1 a)
    rw [hx s, Layout.block_apply, block_col_idx]
  · rw [← hw 0]
    exact pre_w (x 0) (w 0) (h 0).2 n

/-! ## The results -/

/-- The host's product of two whole arrays at an entry. -/
theorem dot_ix2 (X W : FVec Ideal SW .f32) (r n : Fin 2048) :
    Host.dotGeneral Cert.ReferenceIdeal.dot_S2048x2048_S2048x2048_S2048x2048_1_0_0_1_n_n none X W (ix2 r n) = prod X W r n :=
  StackMember.dotGeneral_plain_apply none X W r n

/-- The reference without the clip computes `result`. -/
theorem siluReference_run (m : (ℓ : Loc Cert.SiluReferenceIdeal.nD Cert.SiluReferenceIdeal.τ Cert.SiluReferenceIdeal.sig) → Buf (Elt Ideal) ℓ)
    (ρ : Dev Cert.SiluReferenceIdeal.nD → PrngReg) (X W : SW.Idx → EReal)
    (hX : m ((0 : Dev Cert.SiluReferenceIdeal.nD).tc.loc Cert.SiluReferenceIdeal.main_arg0) = X)
    (hW : m ((0 : Dev Cert.SiluReferenceIdeal.nD).tc.loc Cert.SiluReferenceIdeal.main_arg1) = W) :
    θ_run (Cert.SiluReferenceIdeal.defs (F := Ideal)) (onTc (τ := Cert.SiluReferenceIdeal.τ) (Cert.SiluReferenceIdeal.main (F := Ideal))) ⟨m, fun _ => 0, ρ⟩ fun r =>
      r.2.mem ((0 : Dev Cert.SiluReferenceIdeal.nD).tc.loc Cert.SiluReferenceIdeal.main_v7) = result X W
      ∧ r.2.mem ((0 : Dev Cert.SiluReferenceIdeal.nD).tc.loc Cert.SiluReferenceIdeal.main_arg0) = m ((0 : Dev Cert.SiluReferenceIdeal.nD).tc.loc Cert.SiluReferenceIdeal.main_arg0)
      ∧ r.2.mem ((0 : Dev Cert.SiluReferenceIdeal.nD).tc.loc Cert.SiluReferenceIdeal.main_arg1) = m ((0 : Dev Cert.SiluReferenceIdeal.nD).tc.loc Cert.SiluReferenceIdeal.main_arg1) := by
  refine (θ_run Cert.SiluReferenceIdeal.defs _ _).mono (fun r h => ⟨(h 0).1.trans ?_, (h 0).2⟩) (Cert.SiluReferenceIdeal.Value.run (F := Ideal) m ρ)
  rw [hX, hW]
  funext i
  obtain ⟨a, n, rfl⟩ : ∃ a n : Fin 2048, i = ix2 a n := ⟨i 0, i 1, eq_ix2 i⟩
  have hd := dot_ix2 X W a n
  show Ideal.div _ (broadcastInDim _ _ _ _ _ + Ideal.exp (-_)) = silu (prod X W a n)
  rw [broadcastInDim_scalar_apply, show (constant (F := Ideal) Cert.SiluReferenceIdeal.S_ .f32 0x3F800000#32) ix0 = (1 : EReal) from Ideal.ofBits_one_f32]
  exact congrArg silu hd

/-- The reference computes `result` where the product's entries are within the clip. -/
theorem reference_run (m : (ℓ : Loc Cert.ReferenceIdeal.nD Cert.ReferenceIdeal.τ Cert.ReferenceIdeal.sig) → Buf (Elt Ideal) ℓ)
    (ρ : Dev Cert.ReferenceIdeal.nD → PrngReg) (X W : SW.Idx → EReal)
    (hX : m ((0 : Dev Cert.ReferenceIdeal.nD).tc.loc Cert.ReferenceIdeal.main_arg0) = X)
    (hW : m ((0 : Dev Cert.ReferenceIdeal.nD).tc.loc Cert.ReferenceIdeal.main_arg1) = W)
    (hb : ∀ a n : Fin 2048, ∃ y : ℝ, prod X W a n = (y : EReal) ∧ |y| ≤ 60) :
    θ_run (Cert.ReferenceIdeal.defs (F := Ideal)) (onTc (τ := Cert.ReferenceIdeal.τ) (Cert.ReferenceIdeal.main (F := Ideal))) ⟨m, fun _ => 0, ρ⟩ fun r =>
      r.2.mem ((0 : Dev Cert.ReferenceIdeal.nD).tc.loc Cert.ReferenceIdeal.main_v8) = result X W
      ∧ r.2.mem ((0 : Dev Cert.ReferenceIdeal.nD).tc.loc Cert.ReferenceIdeal.main_arg0) = m ((0 : Dev Cert.ReferenceIdeal.nD).tc.loc Cert.ReferenceIdeal.main_arg0)
      ∧ r.2.mem ((0 : Dev Cert.ReferenceIdeal.nD).tc.loc Cert.ReferenceIdeal.main_arg1) = m ((0 : Dev Cert.ReferenceIdeal.nD).tc.loc Cert.ReferenceIdeal.main_arg1) := by
  refine (θ_run Cert.ReferenceIdeal.defs _ _).mono (fun r h => ⟨(h 0).1.trans ?_, (h 0).2⟩) (Cert.ReferenceIdeal.Value.run (F := Ideal) m ρ)
  rw [hX, hW]
  funext i
  obtain ⟨a, n, rfl⟩ : ∃ a n : Fin 2048, i = ix2 a n := ⟨i 0, i 1, eq_ix2 i⟩
  obtain ⟨y, hy, hy60⟩ := hb a n
  have hd := dot_ix2 X W a n
  show Ideal.div _ (broadcastInDim _ _ _ _ _ + Ideal.exp (-(min (broadcastInDim _ _ _ _ _) (max (broadcastInDim _ _ _ _ _) _)))) = silu (prod X W a n)
  rw [broadcastInDim_scalar_apply, broadcastInDim_scalar_apply, broadcastInDim_scalar_apply]
  rw [show (constant (F := Ideal) Cert.ReferenceIdeal.S_ .f32 0x3F800000#32) ix0 = (1 : EReal) from Ideal.ofBits_one_f32,
    show (id (constant (F := Ideal) Cert.ReferenceIdeal.S_ .f32 0x42700000#32)) ix0 = ((60 : ℝ) : EReal) from bits_60,
    show (id (constant (F := Ideal) Cert.ReferenceIdeal.S_ .f32 0xC2700000#32)) ix0 = ((-60 : ℝ) : EReal) from bits_neg_60]
  refine (congrArg (fun z : EReal => Ideal.div z (1 + Ideal.exp (-(min ((60 : ℝ) : EReal) (max ((-60 : ℝ) : EReal) z))))) hd).trans ?_
  show Ideal.div (prod X W a n) (1 + Ideal.exp (-(min ((60 : ℝ) : EReal) (max ((-60 : ℝ) : EReal) (prod X W a n))))) = _
  rw [hy, clip_of_bound y hy60]
  rfl

end Cert.Exchange

end
-- ==== Proof.lean ====
/-
# The certificate's claims

The frames come from the one run of the exchange (Proof/Launch.lean `run_main`), written for any float values: the
kernel and its idealization are one text, so the run serves both. The references are straight-line host programs. The
value claims put the run's result (Proof/Value.lean `outAt_block`) next to the references' (Proof/References.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.SiluReferenceIdeal
public import proofs.«01_k».proof.Proof.Gen.SiluReferenceIdeal.Run
public import proofs.«01_k».proof.Proof.Gen.Pre_bounded_KernelIdeal
public import proofs.«01_k».proof.Proof.Gen.Pre_bounded_ReferenceIdeal
public import proofs.«01_k».proof.Proof.Launch
public import proofs.«01_k».proof.Proof.References

@[expose] public section

noncomputable section

namespace Cert.Proof

open Idealize.ShloMosaic Idealize.SL.Sem Cert.Exchange

set_option maxRecDepth 40000 in
/-- The kernel and its idealization have one body table. -/
theorem defs₀_same {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => funext ⟨t, s⟩; rfl

/-- With their regions and pipelines too. -/
theorem defs_same {F : FTy → Type} [FloatOps F] : Cert.Kernel.defs (F := F) = Cert.KernelIdeal.defs (F := F) :=
  congrArg (Pipeline.defs Cert.KernelIdeal.pcfgs) defs₀_same

/-- The kernel's frame, at the machine's floats. -/
theorem frame_kernel : Cert.quiescent_Kernel := by
  intro m ρ _
  rw [defs_same]
  exact (θ_run Cert.KernelIdeal.defs _ _).mono (fun _ h => ⟨fun c => ⟨(h.1 c (0 : Fin 3)).trans (finalA_x m ρ c), (h.1 c (1 : Fin 3)).trans (finalA_w m ρ c)⟩, h.2⟩)
    (run_main (F := Bits) m ρ)

/-- Its idealization's frame, at the extended reals. -/
theorem frame_kernelIdeal : Cert.quiescent_KernelIdeal := fun m ρ _ =>
  (θ_run Cert.KernelIdeal.defs _ _).mono (fun _ h => ⟨fun c => ⟨(h.1 c (0 : Fin 3)).trans (finalA_x m ρ c), (h.1 c (1 : Fin 3)).trans (finalA_w m ρ c)⟩, h.2⟩)
    (run_main (F := Ideal) m ρ)

/-- The reference's frame: a straight-line program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The frame of the reference without the clip. -/
theorem frame_siluReference : Cert.quiescent_SiluReferenceIdeal := fun m ρ _ =>
  (θ_run Cert.SiluReferenceIdeal.defs _ _).mono (fun r h => ⟨fun c => (h c).2, sem_eq_zero_of_no_sems (by decide) r.2⟩)
    (Cert.SiluReferenceIdeal.Value.run (F := Ideal) m ρ)

/-- The run of the idealized kernel with its result: every device ends with its rows of `result`. -/
theorem kernel_run (m : (ℓ : Loc Cert.KernelIdeal.nD Cert.KernelIdeal.τ Cert.KernelIdeal.sig) → Buf (Elt Ideal) ℓ) (ρ : Dev Cert.KernelIdeal.nD → PrngReg)
    (X W : SW.Idx → EReal)
    (hx : ∀ s : Dev Cert.KernelIdeal.nD, m (s.tc.loc Cert.KernelIdeal.main_arg0) = Layout.block ⟨2, ![2048, 256]⟩ ⟨2, ![2048, 2048]⟩ 1 8 s X)
    (hw : ∀ s : Dev Cert.KernelIdeal.nD, m (s.tc.loc Cert.KernelIdeal.main_arg1) = W) :
    θ_run (Cert.KernelIdeal.defs (F := Ideal)) (onTc (τ := Cert.KernelIdeal.τ) (Cert.KernelIdeal.main (F := Ideal))) ⟨m, fun _ => 0, ρ⟩ fun r => ∀ c : Dev Cert.KernelIdeal.nD,
      r.2.mem (c.tc.loc Cert.KernelIdeal.main_v1) = Layout.block ⟨2, ![256, 2048]⟩ ⟨2, ![2048, 2048]⟩ 0 8 c (result X W)
      ∧ r.2.mem (c.tc.loc Cert.KernelIdeal.main_arg0) = m (c.tc.loc Cert.KernelIdeal.main_arg0)
      ∧ r.2.mem (c.tc.loc Cert.KernelIdeal.main_arg1) = m (c.tc.loc Cert.KernelIdeal.main_arg1) :=
  (θ_run Cert.KernelIdeal.defs _ _).mono (fun _ h c =>
    ⟨(h.1 c (2 : Fin 3)).trans ((finalA_o m ρ c).trans (outAt_block m ρ c X W hx hw)),
      (h.1 c (0 : Fin 3)).trans (finalA_x m ρ c), (h.1 c (1 : Fin 3)).trans (finalA_w m ρ c)⟩) (run_main (F := Ideal) m ρ)

/-- The kernel against the reference without the clip, from every memory. -/
theorem algebraic_silu : Cert.algebraic_KernelIdeal_SiluReferenceIdeal := fun m ρ m' ρ' _ hag =>
  ⟨result (m' ((0 : Dev Cert.SiluReferenceIdeal.nD).tc.loc Cert.SiluReferenceIdeal.main_arg0)) (m' ((0 : Dev Cert.SiluReferenceIdeal.nD).tc.loc Cert.SiluReferenceIdeal.main_arg1)),
    kernel_run m ρ _ _ (fun s => (hag s).1) (fun s => (hag s).2),
    siluReference_run m' ρ' _ _ rfl rfl⟩

/-- The kernel against the reference, from every memory within the precondition. -/
theorem algebraic_reference : Cert.algebraic_KernelIdeal_ReferenceIdeal_pre_bounded_KernelIdeal := fun m ρ m' ρ' hpre hag =>
  ⟨result (m' ((0 : Dev Cert.ReferenceIdeal.nD).tc.loc Cert.ReferenceIdeal.main_arg0)) (m' ((0 : Dev Cert.ReferenceIdeal.nD).tc.loc Cert.ReferenceIdeal.main_arg1)),
    kernel_run m ρ _ _ (fun s => (hag s).1) (fun s => (hag s).2),
    reference_run m' ρ' _ _ rfl rfl (bound_of_pre _ _
      (fun s => m (s.tc.loc Cert.KernelIdeal.main_arg0)) (fun s => m (s.tc.loc Cert.KernelIdeal.main_arg1))
      (fun s => (hag s).1) (fun s => (hag s).2) hpre)⟩

theorem claim : Cert.Claim :=
  ⟨Cert.Kernel.Gen.facts, Cert.KernelIdeal.Gen.facts, Cert.ReferenceIdeal.Gen.facts, Cert.SiluReferenceIdeal.Gen.facts,
    Cert.Pre_bounded_KernelIdeal.Gen.facts, Cert.Pre_bounded_ReferenceIdeal.Gen.facts,
    frame_kernel, frame_kernelIdeal, fun m ρ _ => frame_kernelIdeal m ρ trivial,
    frame_reference, fun m ρ _ => frame_reference m ρ trivial, frame_siluReference, trivial, algebraic_reference, algebraic_silu⟩

end Cert.Proof

end
